-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln256" .f32 0x40B17218#32 ((8 * (Real.log 2) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v11_0) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v11_1) = v3 c
          ∧ r.2.mem ((c.tc : Thread Cert.ReferenceIdeal.nD Cert.ReferenceIdeal.τ).loc Cert.ReferenceIdeal.main_v15) = v4 c
          ∧ r.2.mem ((c.tc : Thread Cert.ReferenceIdeal.nD Cert.ReferenceIdeal.τ).loc Cert.ReferenceIdeal.main_v11_2) = v5 c
          ∧ r.2.mem ((c.tc : Thread Cert.ReferenceIdeal.nD Cert.ReferenceIdeal.τ).loc Cert.ReferenceIdeal.main_v17) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x2048 : Shape := ⟨3, ![8, 4096, 2048]⟩
abbrev S_ : Shape := ⟨0, ![]⟩

class Facts : Prop where
  bcast_S_S8x4096x2048 : S_.BroadcastsInDim S8x4096x2048 (![] : Fin 0 → Fin S8x4096x2048.rank)

variable [Facts]

def fn {F : FTy → Type} [FloatOps F] (main_arg0 : FVec F S8x4096x2048 .bf16) (main_arg1 : FVec F S8x4096x2048 .bf16) (main_arg2 : FVec F S8x4096x2048 .bf16) : IVec S8x4096x2048 1 :=
  let main_v0 : FVec F S8x4096x2048 .bf16 := Host.absf main_arg1
  let main_cst : FVec F S_ .bf16 := constant S_ .bf16 0x7F80#16
  let main_v1 : FVec F S8x4096x2048 .bf16 := broadcastInDim S8x4096x2048 ![] bcast_S_S8x4096x2048 main_cst
  let main_v2 : IVec S8x4096x2048 1 := cmpf .olt main_v0 main_v1
  main_v2
-- ==== Kernel.lean ====
abbrev S8x4096x2048 : Shape := ⟨3, ![8, 4096, 2048]⟩
abbrev S8x16x32x128 : Shape := ⟨4, ![8, 16, 32, 128]⟩
abbrev S1x4096x128 : Shape := ⟨3, ![1, 4096, 128]⟩
abbrev S1x1x32x128 : Shape := ⟨4, ![1, 1, 32, 128]⟩
abbrev S32x128x256 : Shape := ⟨3, ![32, 128, 256]⟩
abbrev S32x256 : Shape := ⟨2, ![32, 256]⟩
abbrev S32x128 : Shape := ⟨2, ![32, 128]⟩
abbrev S4096x128 : Shape := ⟨2, ![4096, 128]⟩
abbrev S32x128x128 : Shape := ⟨3, ![32, 128, 128]⟩
abbrev S64x128 : Shape := ⟨2, ![64, 128]⟩
abbrev S1x128 : Shape := ⟨2, ![1, 128]⟩
abbrev S1x128x128 : Shape := ⟨3, ![1, 128, 128]⟩
abbrev S128x128 : Shape := ⟨2, ![128, 128]⟩
abbrev S1x64x128 : Shape := ⟨3, ![1, 64, 128]⟩
abbrev S128x256 : Shape := ⟨2, ![128, 256]⟩
abbrev S1x256 : Shape := ⟨2, ![1, 256]⟩
abbrev S1x128x256 : Shape := ⟨3, ![1, 128, 256]⟩
abbrev S256 : Shape := ⟨1, ![256]⟩
abbrev S256x128 : Shape := ⟨2, ![256, 128]⟩
abbrev S1x1 : Shape := ⟨2, ![1, 1]⟩
abbrev S8x16x32x2 : Shape := ⟨4, ![8, 16, 32, 2]⟩
abbrev S8x32x16x2 : Shape := ⟨4, ![8, 32, 16, 2]⟩
abbrev S8x32x32 : Shape := ⟨3, ![8, 32, 32]⟩

abbrev nBuf : Space → Nat
  | .hbm => 19
  | .vmem => 25
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x2048, .bf16⟩
  | .hbm, ⟨3, _⟩ => ⟨S8x4096x2048, .bf16⟩
  | .hbm, ⟨4, _⟩ => ⟨S8x4096x2048, .fp8e4m3⟩
  | .hbm, ⟨5, _⟩ => ⟨S8x16x32x128, .f32⟩
  | .hbm, ⟨6, _⟩ => ⟨S8x4096x2048, .fp8e4m3⟩
  | .hbm, ⟨7, _⟩ => ⟨S8x16x32x128, .f32⟩
  | .hbm, ⟨8, _⟩ => ⟨S8x4096x2048, .fp8e4m3⟩
  | .hbm, ⟨9, _⟩ => ⟨S8x16x32x128, .f32⟩
  | .hbm, ⟨10, _⟩ => ⟨S8x16x32x2, .f32⟩
  | .hbm, ⟨11, _⟩ => ⟨S8x32x16x2, .f32⟩
  | .hbm, ⟨12, _⟩ => ⟨S8x32x32, .f32⟩
  | .hbm, ⟨13, _⟩ => ⟨S8x16x32x2, .f32⟩
  | .hbm, ⟨14, _⟩ => ⟨S8x32x16x2, .f32⟩
  | .hbm, ⟨15, _⟩ => ⟨S8x32x32, .f32⟩
  | .hbm, ⟨16, _⟩ => ⟨S8x16x32x2, .f32⟩
  | .hbm, ⟨17, _⟩ => ⟨S8x32x16x2, .f32⟩
  | .hbm, ⟨18, _⟩ => ⟨S8x32x32, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .fp8e4m3⟩
  | .local _ .vmem, ⟨9, _⟩ => ⟨S1x4096x128, .fp8e4m3⟩
  | .local _ .vmem, ⟨10, _⟩ => ⟨S1x1x32x128, .f32⟩
  | .local _ .vmem, ⟨11, _⟩ => ⟨S1x1x32x128, .f32⟩
  | .local _ .vmem, ⟨12, _⟩ => ⟨S1x4096x128, .fp8e4m3⟩
  | .local _ .vmem, ⟨13, _⟩ => ⟨S1x4096x128, .fp8e4m3⟩
  | .local _ .vmem, ⟨14, _⟩ => ⟨S1x1x32x128, .f32⟩
  | .local _ .vmem, ⟨15, _⟩ => ⟨S1x1x32x128, .f32⟩
  | .local _ .vmem, ⟨16, _⟩ => ⟨S1x4096x128, .fp8e4m3⟩
  | .local _ .vmem, ⟨17, _⟩ => ⟨S1x4096x128, .fp8e4m3⟩
  | .local _ .vmem, ⟨18, _⟩ => ⟨S1x1x32x128, .f32⟩
  | .local _ .vmem, ⟨19, _⟩ => ⟨S1x1x32x128, .f32⟩
  | .local _ .vmem, ⟨20, _⟩ => ⟨S32x128x256, .fp8e4m3⟩
  | .local _ .vmem, ⟨21, _⟩ => ⟨S32x128x256, .fp8e4m3⟩
  | .local _ .vmem, ⟨22, _⟩ => ⟨S32x256, .f32⟩
  | .local _ .vmem, ⟨23, _⟩ => ⟨S32x256, .f32⟩
  | .local _ .vmem, ⟨24, _⟩ => ⟨S32x128, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_1585 : BitVec 32 := 0#32
  let c32_i32_1586 : BitVec 32 := 32#32
  let v2626 : BitVec 32 := Scalar.addi c0_i32_1585 c32_i32_1586
  let c1_i32_1587 : BitVec 32 := 1#32
  ⟨c0_i32_1585, v2626, c1_i32_1587⟩
@[reducible] def k0_t2_loop (k0_t1 : Fin k0_t1_loop.trips) : Scf.Loop 32 :=
  let c0_i32_1592 : BitVec 32 := 0#32
  let c0_i32_1585 : BitVec 32 := 0#32
  let c1_i32_1587 : BitVec 32 := 1#32
  let arg17 : BitVec 32 := Scf.iv c0_i32_1585 c1_i32_1587 k0_t1
  let v2630 : BitVec 32 := Scalar.subi arg17 c0_i32_1592
  let c1_i32_1593 : BitVec 32 := 1#32
  let v2632 : BitVec 32 := Scalar.divsi v2630 c1_i32_1593
  let v2633 : BitVec 32 := Scalar.muli v2632 c1_i32_1593
  let v2634 : BitVec 32 := Scalar.addi c0_i32_1592 v2633
  let c1_i32_1594 : BitVec 32 := 1#32
  ⟨c0_i32_1592, v2634, c1_i32_1594⟩
def k0_off1 (k0_t1 : Fin k0_t1_loop.trips) (k0_t2 : Fin (k0_t2_loop k0_t1).trips) : Fin 3 → Nat :=
  let c0_1619 : Index := 0#32
  let c0_i32_1592 : BitVec 32 := 0#32
  let c1_i32_1594 : BitVec 32 := 1#32
  let arg18 : BitVec 32 := Scf.iv c0_i32_1592 c1_i32_1594 k0_t2
  let c128_i32_1618 : BitVec 32 := 128#32
  let v2720 : BitVec 32 := Scalar.muli arg18 c128_i32_1618
  let v2721 : Index := Scalar.indexCast v2720
  let c0_1620 : Index := 0#32
  ![0, v2721.toNat, 0]
def k0_off2 (k0_t1 : Fin k0_t1_loop.trips) : Fin 3 → Nat :=
  let c0_i32_1585 : BitVec 32 := 0#32
  let c1_i32_1587 : BitVec 32 := 1#32
  let arg17 : BitVec 32 := Scf.iv c0_i32_1585 c1_i32_1587 k0_t1
  let v2724 : Index := Scalar.indexCast arg17
  let c0_1621 : Index := 0#32
  let c0_1622 : Index := 0#32
  ![v2724.toNat, 0, 0]
def k0_off3 (k0_t1 : Fin k0_t1_loop.trips) : Fin 2 → Nat :=
  let c0_i32_1585 : BitVec 32 := 0#32
  let c1_i32_1587 : BitVec 32 := 1#32
  let arg17 : BitVec 32 := Scf.iv c0_i32_1585 c1_i32_1587 k0_t1
  let v2728 : Index := Scalar.indexCast arg17
  let c0_1624 : Index := 0#32
  ![v2728.toNat, 0]
def k0_off4 (k0_t1 : Fin k0_t1_loop.trips) (k0_t2 : Fin (k0_t2_loop k0_t1).trips) : Fin 2 → Nat :=
  let c0_i32_1592 : BitVec 32 := 0#32
  let c1_i32_1594 : BitVec 32 := 1#32
  let arg18 : BitVec 32 := Scf.iv c0_i32_1592 c1_i32_1594 k0_t2
  let v2730 : Index := Scalar.indexCast arg18
  let c0_1625 : Index := 0#32
  ![v2730.toNat, 0]
def k0_off5 (k0_t1 : Fin k0_t1_loop.trips) (k0_t2 : Fin (k0_t2_loop k0_t1).trips) : Fin 3 → Nat :=
  let c0_i32_1592 : BitVec 32 := 0#32
  let c1_i32_1594 : BitVec 32 := 1#32
  let arg18 : BitVec 32 := Scf.iv c0_i32_1592 c1_i32_1594 k0_t2
  let v2763 : Index := Scalar.indexCast arg18
  let c0_1633 : Index := 0#32
  let c0_1634 : Index := 0#32
  ![v2763.toNat, 0, 0]
def k0_off6 (k0_t1 : Fin k0_t1_loop.trips) (k0_t2 : Fin (k0_t2_loop k0_t1).trips) : Fin 2 → Nat :=
  let c0_i32_1592 : BitVec 32 := 0#32
  let c1_i32_1594 : BitVec 32 := 1#32
  let arg18 : BitVec 32 := Scf.iv c0_i32_1592 c1_i32_1594 k0_t2
  let v2767 : Index := Scalar.indexCast arg18
  let c0_1636 : Index := 0#32
  ![v2767.toNat, 0]
@[reducible] def k0_t3_loop (k0_t1 : Fin k0_t1_loop.trips) : Scf.Loop 32 :=
  let c0_i32_1592 : BitVec 32 := 0#32
  let c0_i32_1585 : BitVec 32 := 0#32
  let c1_i32_1587 : BitVec 32 := 1#32
  let arg17 : BitVec 32 := Scf.iv c0_i32_1585 c1_i32_1587 k0_t1
  let v2630 : BitVec 32 := Scalar.subi arg17 c0_i32_1592
  let c1_i32_1593 : BitVec 32 := 1#32
  let v2632 : BitVec 32 := Scalar.divsi v2630 c1_i32_1593
  let v2633 : BitVec 32 := Scalar.muli v2632 c1_i32_1593
  let v2634 : BitVec 32 := Scalar.addi c0_i32_1592 v2633
  let v2631 : BitVec 32 := Scalar.addi c0_i32_1592 v2630
  let c1_i32_1595 : BitVec 32 := 1#32
  ⟨v2634, v2631, c1_i32_1595⟩
def k0_off7 (k0_t1 : Fin k0_t1_loop.trips) (k0_t3 : Fin (k0_t3_loop k0_t1).trips) : Fin 3 → Nat :=
  let c0_1619 : Index := 0#32
  let c0_i32_1592 : BitVec 32 := 0#32
  let c0_i32_1585 : BitVec 32 := 0#32
  let c1_i32_1587 : BitVec 32 := 1#32
  let arg17 : BitVec 32 := Scf.iv c0_i32_1585 c1_i32_1587 k0_t1
  let v2630 : BitVec 32 := Scalar.subi arg17 c0_i32_1592
  let c1_i32_1593 : BitVec 32 := 1#32
  let v2632 : BitVec 32 := Scalar.divsi v2630 c1_i32_1593
  let v2633 : BitVec 32 := Scalar.muli v2632 c1_i32_1593
  let v2634 : BitVec 32 := Scalar.addi c0_i32_1592 v2633
  let c1_i32_1595 : BitVec 32 := 1#32
  let arg18 : BitVec 32 := Scf.iv v2634 c1_i32_1595 k0_t3
  let c128_i32_1618 : BitVec 32 := 128#32
  let v2720 : BitVec 32 := Scalar.muli arg18 c128_i32_1618
  let v2721 : Index := Scalar.indexCast v2720
  let c0_1620 : Index := 0#32
  ![0, v2721.toNat, 0]
def k0_off8 (k0_t1 : Fin k0_t1_loop.trips) : Fin 3 → Nat :=
  let c0_i32_1585 : BitVec 32 := 0#32
  let c1_i32_1587 : BitVec 32 := 1#32
  let arg17 : BitVec 32 := Scf.iv c0_i32_1585 c1_i32_1587 k0_t1
  let v2724 : Index := Scalar.indexCast arg17
  let c0_1621 : Index := 0#32
  let c0_1622 : Index := 0#32
  ![v2724.toNat, 0, 0]
def k0_off9 (k0_t1 : Fin k0_t1_loop.trips) : Fin 2 → Nat :=
  let c0_i32_1585 : BitVec 32 := 0#32
  let c1_i32_1587 : BitVec 32 := 1#32
  let arg17 : BitVec 32 := Scf.iv c0_i32_1585 c1_i32_1587 k0_t1
  let v2728 : Index := Scalar.indexCast arg17
  let c0_1624 : Index := 0#32
  ![v2728.toNat, 0]
def k0_off10 (k0_t1 : Fin k0_t1_loop.trips) (k0_t3 : Fin (k0_t3_loop k0_t1).trips) : Fin 2 → Nat :=
  let c0_i32_1592 : BitVec 32 := 0#32
  let c0_i32_1585 : BitVec 32 := 0#32
  let c1_i32_1587 : BitVec 32 := 1#32
  let arg17 : BitVec 32 := Scf.iv c0_i32_1585 c1_i32_1587 k0_t1
  let v2630 : BitVec 32 := Scalar.subi arg17 c0_i32_1592
  let c1_i32_1593 : BitVec 32 := 1#32
  let v2632 : BitVec 32 := Scalar.divsi v2630 c1_i32_1593
  let v2633 : BitVec 32 := Scalar.muli v2632 c1_i32_1593
  let v2634 : BitVec 32 := Scalar.addi c0_i32_1592 v2633
  let c1_i32_1595 : BitVec 32 := 1#32
  let arg18 : BitVec 32 := Scf.iv v2634 c1_i32_1595 k0_t3
  let v2730 : Index := Scalar.indexCast arg18
  let c0_1625 : Index := 0#32
  ![v2730.toNat, 0]
def k0_off11 (k0_t1 : Fin k0_t1_loop.trips) (k0_t3 : Fin (k0_t3_loop k0_t1).trips) : Fin 3 → Nat :=
  let c0_i32_1592 : BitVec 32 := 0#32
  let c0_i32_1585 : BitVec 32 := 0#32
  let c1_i32_1587 : BitVec 32 := 1#32
  let arg17 : BitVec 32 := Scf.iv c0_i32_1585 c1_i32_1587 k0_t1
  let v2630 : BitVec 32 := Scalar.subi arg17 c0_i32_1592
  let c1_i32_1593 : BitVec 32 := 1#32
  let v2632 : BitVec 32 := Scalar.divsi v2630 c1_i32_1593
  let v2633 : BitVec 32 := Scalar.muli v2632 c1_i32_1593
  let v2634 : BitVec 32 := Scalar.addi c0_i32_1592 v2633
  let c1_i32_1595 : BitVec 32 := 1#32
  let arg18 : BitVec 32 := Scf.iv v2634 c1_i32_1595 k0_t3
  let v2763 : Index := Scalar.indexCast arg18
  let c0_1633 : Index := 0#32
  let c0_1634 : Index := 0#32
  ![v2763.toNat, 0, 0]
def k0_off12 (k0_t1 : Fin k0_t1_loop.trips) (k0_t3 : Fin (k0_t3_loop k0_t1).trips) : Fin 2 → Nat :=
  let c0_i32_1592 : BitVec 32 := 0#32
  let c0_i32_1585 : BitVec 32 := 0#32
  let c1_i32_1587 : BitVec 32 := 1#32
  let arg17 : BitVec 32 := Scf.iv c0_i32_1585 c1_i32_1587 k0_t1
  let v2630 : BitVec 32 := Scalar.subi arg17 c0_i32_1592
  let c1_i32_1593 : BitVec 32 := 1#32
  let v2632 : BitVec 32 := Scalar.divsi v2630 c1_i32_1593
  let v2633 : BitVec 32 := Scalar.muli v2632 c1_i32_1593
  let v2634 : BitVec 32 := Scalar.addi c0_i32_1592 v2633
  let c1_i32_1595 : BitVec 32 := 1#32
  let arg18 : BitVec 32 := Scf.iv v2634 c1_i32_1595 k0_t3
  let v2767 : Index := Scalar.indexCast arg18
  let c0_1636 : Index := 0#32
  ![v2767.toNat, 0]
def k0_off13 (k0_t1 : Fin k0_t1_loop.trips) : Fin 3 → Nat :=
  let c0_1596 : Index := 0#32
  let c0_i32_1585 : BitVec 32 := 0#32
  let c1_i32_1587 : BitVec 32 := 1#32
  let arg17 : BitVec 32 := Scf.iv c0_i32_1585 c1_i32_1587 k0_t1
  let c128_i32 : BitVec 32 := 128#32
  let v2637 : BitVec 32 := Scalar.muli arg17 c128_i32
  let v2638 : Index := Scalar.indexCast v2637
  let c0_1597 : Index := 0#32
  ![0, v2638.toNat, 0]
def k0_off14 (k0_t1 : Fin k0_t1_loop.trips) : Fin 3 → Nat :=
  let c0_i32_1585 : BitVec 32 := 0#32
  let c1_i32_1587 : BitVec 32 := 1#32
  let arg17 : BitVec 32 := Scf.iv c0_i32_1585 c1_i32_1587 k0_t1
  let v2641 : Index := Scalar.indexCast arg17
  let c0_1598 : Index := 0#32
  let c0_1599 : Index := 0#32
  ![v2641.toNat, 0, 0]
def k0_off15 (k0_t1 : Fin k0_t1_loop.trips) : Fin 2 → Nat :=
  let c0_i32_1585 : BitVec 32 := 0#32
  let c1_i32_1587 : BitVec 32 := 1#32
  let arg17 : BitVec 32 := Scf.iv c0_i32_1585 c1_i32_1587 k0_t1
  let v2647 : Index := Scalar.indexCast arg17
  let c0_1602 : Index := 0#32
  ![v2647.toNat, 0]
def k0_off16 (k0_t1 : Fin k0_t1_loop.trips) : Fin 2 → Nat :=
  let c0_i32_1585 : BitVec 32 := 0#32
  let c1_i32_1587 : BitVec 32 := 1#32
  let arg17 : BitVec 32 := Scf.iv c0_i32_1585 c1_i32_1587 k0_t1
  let v2686 : Index := Scalar.indexCast arg17
  let c0_1614 : Index := 0#32
  ![v2686.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln256" => some ((8 * (Real.log 2) : ℝ) : EReal)
  | "log2e" => some (((Real.log 2)⁻¹ : ℝ) : EReal)
  | _ => none
-- ==== ReferenceIdeal.lean ====
abbrev S8x4096x2048 : Shape := ⟨3, ![8, 4096, 2048]⟩
abbrev S1x8x4096x2048 : Shape := ⟨4, ![1, 8, 4096, 2048]⟩
abbrev S3x8x4096x2048 : Shape := ⟨4, ![3, 8, 4096, 2048]⟩
abbrev S3x8x32x128x32x64 : Shape := ⟨6, ![3, 8, 32, 128, 32, 64]⟩
abbrev S_ : Shape := ⟨0, ![]⟩
abbrev S3x8x32x32 : Shape := ⟨4, ![3, 8, 32, 32]⟩
abbrev S3x8x32x1x32x1 : Shape := ⟨6, ![3, 8, 32, 1, 32, 1]⟩
abbrev S1x8x32x32 : Shape := ⟨4, ![1, 8, 32, 32]⟩
abbrev S8x32x32 : Shape := ⟨3, ![8, 32, 32]⟩
abbrev S8x4096x32x64 : Shape := ⟨4, ![8, 4096, 32, 64]⟩
abbrev S8x32x4096x4096 : Shape := ⟨4, ![8, 32, 4096, 4096]⟩
abbrev S8x32x128x32 : Shape := ⟨4, ![8, 32, 128, 32]⟩
abbrev S8x4096x32 : Shape := ⟨3, ![8, 4096, 32]⟩
abbrev S8x32x4096 : Shape := ⟨3, ![8, 32, 4096]⟩
abbrev S8x32x4096x1 : Shape := ⟨4, ![8, 32, 4096, 1]⟩
abbrev S8x32x1x4096 : Shape := ⟨4, ![8, 32, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x32x1 : Shape := ⟨4, ![8, 4096, 32, 1]⟩
abbrev S8x32x4096x64 : Shape := ⟨4, ![8, 32, 4096, 64]⟩

abbrev nBuf : Space → Nat
  | .hbm => 96
  | .vmem => 8
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x2048, .bf16⟩
  | .hbm, ⟨3, _⟩ => ⟨S1x8x4096x2048, .bf16⟩
  | .hbm, ⟨4, _⟩ => ⟨S1x8x4096x2048, .bf16⟩
  | .hbm, ⟨5, _⟩ => ⟨S1x8x4096x2048, .bf16⟩
  | .hbm, ⟨6, _⟩ => ⟨S3x8x4096x2048, .bf16⟩
  | .hbm, ⟨7, _⟩ => ⟨S3x8x4096x2048, .f32⟩
  | .hbm, ⟨8, _⟩ => ⟨S3x8x4096x2048, .f32⟩
  | .hbm, ⟨9, _⟩ => ⟨S3x8x32x128x32x64, .f32⟩
  | .hbm, ⟨10, _⟩ => ⟨S_, .f32⟩
  | .hbm, ⟨11, _⟩ => ⟨S3x8x32x32, .f32⟩
  | .hbm, ⟨12, _⟩ => ⟨S3x8x32x1x32x1, .f32⟩
  | .hbm, ⟨13, _⟩ => ⟨S3x8x32x128x32x64, .f32⟩
  | .hbm, ⟨14, _⟩ => ⟨S3x8x4096x2048, .f32⟩
  | .hbm, ⟨15, _⟩ => ⟨S8x4096x2048, .fp8e4m3⟩
  | .hbm, ⟨16, _⟩ => ⟨S8x4096x2048, .fp8e4m3⟩
  | .hbm, ⟨17, _⟩ => ⟨S8x4096x2048, .fp8e4m3⟩
  | .hbm, ⟨18, _⟩ => ⟨S3x8x4096x2048, .f32⟩
  | .hbm, ⟨19, _⟩ => ⟨S3x8x32x32, .f32⟩
  | .hbm, ⟨20, _⟩ => ⟨S1x8x32x32, .f32⟩
  | .hbm, ⟨21, _⟩ => ⟨S8x32x32, .f32⟩
  | .hbm, ⟨22, _⟩ => ⟨S1x8x32x32, .f32⟩
  | .hbm, ⟨23, _⟩ => ⟨S8x32x32, .f32⟩
  | .hbm, ⟨24, _⟩ => ⟨S1x8x32x32, .f32⟩
  | .hbm, ⟨25, _⟩ => ⟨S8x32x32, .f32⟩
  | .hbm, ⟨26, _⟩ => ⟨S1x8x4096x2048, .f32⟩
  | .hbm, ⟨27, _⟩ => ⟨S8x4096x2048, .f32⟩
  | .hbm, ⟨28, _⟩ => ⟨S1x8x4096x2048, .f32⟩
  | .hbm, ⟨29, _⟩ => ⟨S8x4096x2048, .f32⟩
  | .hbm, ⟨30, _⟩ => ⟨S1x8x4096x2048, .f32⟩
  | .hbm, ⟨31, _⟩ => ⟨S8x4096x2048, .f32⟩
  | .hbm, ⟨32, _⟩ => ⟨S8x4096x32x64, .f32⟩
  | .hbm, ⟨33, _⟩ => ⟨S8x4096x32x64, .f32⟩
  | .hbm, ⟨34, _⟩ => ⟨S8x32x4096x4096, .f32⟩
  | .hbm, ⟨35, _⟩ => ⟨S8x32x128x32, .f32⟩
  | .hbm, ⟨36, _⟩ => ⟨S8x4096x32, .f32⟩
  | .hbm, ⟨37, _⟩ => ⟨S8x32x4096, .f32⟩
  | .hbm, ⟨38, _⟩ => ⟨S8x32x4096x1, .f32⟩
  | .hbm, ⟨39, _⟩ => ⟨S8x32x128x32, .f32⟩
  | .hbm, ⟨40, _⟩ => ⟨S8x4096x32, .f32⟩
  | .hbm, ⟨41, _⟩ => ⟨S8x32x4096, .f32⟩
  | .hbm, ⟨42, _⟩ => ⟨S8x32x1x4096, .f32⟩
  | .hbm, ⟨43, _⟩ => ⟨S8x32x4096x4096, .f32⟩
  | .hbm, ⟨44, _⟩ => ⟨S8x32x4096x4096, .f32⟩
  | .hbm, ⟨45, _⟩ => ⟨S8x32x4096x4096, .f32⟩
  | .hbm, ⟨46, _⟩ => ⟨S_, .f32⟩
  | .hbm, ⟨47, _⟩ => ⟨S8x32x4096x4096, .f32⟩
  | .hbm, ⟨48, _⟩ => ⟨S8x32x4096x4096, .f32⟩
  | .hbm, ⟨49, _⟩ => ⟨S8x32x4096x4096, .f32⟩
  | .hbm, ⟨50, _⟩ => ⟨S4096, .i32⟩
  | .hbm, ⟨51, _⟩ => ⟨S1x4096, .i32⟩
  | .hbm, ⟨52, _⟩ => ⟨S4096x1, .i32⟩
  | .hbm, ⟨53, _⟩ => ⟨S4096x4096, .i32⟩
  | .hbm, ⟨54, _⟩ => ⟨S4096x4096, .i32⟩
  | .hbm, ⟨55, _⟩ => ⟨S4096x4096, .i1⟩
  | .hbm, ⟨56, _⟩ => ⟨S_, .f32⟩
  | .hbm, ⟨57, _⟩ => ⟨S_, .f32⟩
  | .hbm, ⟨58, _⟩ => ⟨S8x32x4096x4096, .i1⟩
  | .hbm, ⟨59, _⟩ => ⟨S8x32x4096x4096, .f32⟩
  | .hbm, ⟨60, _⟩ => ⟨S8x32x4096x4096, .f32⟩
  | .hbm, ⟨61, _⟩ => ⟨S_, .f32⟩
  | .hbm, ⟨62, _⟩ => ⟨S8x32x4096, .f32⟩
  | .hbm, ⟨63, _⟩ => ⟨S8x32x4096x1, .f32⟩
  | .hbm, ⟨64, _⟩ => ⟨S8x32x4096x4096, .f32⟩
  | .hbm, ⟨65, _⟩ => ⟨S8x32x4096x4096, .f32⟩
  | .hbm, ⟨66, _⟩ => ⟨S8x32x4096x4096, .f32⟩
  | .hbm, ⟨67, _⟩ => ⟨S_, .f32⟩
  | .hbm, ⟨68, _⟩ => ⟨S8x32x4096, .f32⟩
  | .hbm, ⟨69, _⟩ => ⟨S_, .f32⟩
  | .hbm, ⟨70, _⟩ => ⟨S8x32x4096x4096, .f32⟩
  | .hbm, ⟨71, _⟩ => ⟨S8x32x4096x4096, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8x32x4096x4096, .f32⟩
  | .hbm, ⟨76, _⟩ => ⟨S8x32x4096x4096, .f32⟩
  | .hbm, ⟨77, _⟩ => ⟨S_, .f32⟩
  | .hbm, ⟨78, _⟩ => ⟨S8x32x4096x4096, .f32⟩
  | .hbm, ⟨79, _⟩ => ⟨S8x32x4096x4096, .f32⟩
  | .hbm, ⟨80, _⟩ => ⟨S8x4096x32x64, .f32⟩
  | .hbm, ⟨81, _⟩ => ⟨S8x32x128x32, .f32⟩
  | .hbm, ⟨82, _⟩ => ⟨S8x4096x32, .f32⟩
  | .hbm, ⟨83, _⟩ => ⟨S_, .f32⟩
  | .hbm, ⟨84, _⟩ => ⟨S8x4096x32, .f32⟩
  | .hbm, ⟨85, _⟩ => ⟨S8x4096x32, .f32⟩
  | .hbm, ⟨86, _⟩ => ⟨S8x4096x32x1, .f32⟩
  | .hbm, ⟨87, _⟩ => ⟨S8x4096x32x64, .f32⟩
  | .hbm, ⟨88, _⟩ => ⟨S8x4096x32x64, .f32⟩
  | .hbm, ⟨89, _⟩ => ⟨S8x32x4096x64, .f32⟩
  | .hbm, ⟨90, _⟩ => ⟨S8x32x4096x1, .f32⟩
  | .hbm, ⟨91, _⟩ => ⟨S8x32x4096x64, .f32⟩
  | .hbm, ⟨92, _⟩ => ⟨S8x32x4096x64, .f32⟩
  | .hbm, ⟨93, _⟩ => ⟨S8x4096x32x64, .f32⟩
  | .hbm, ⟨94, _⟩ => ⟨S8x4096x2048, .f32⟩
  | .hbm, ⟨95, _⟩ => ⟨S8x4096x2048, .bf16⟩
  | .local _ .vmem, ⟨0, _⟩ => ⟨S3x8x4096x2048, .f32⟩
  | .local _ .vmem, ⟨1, _⟩ => ⟨S3x8x4096x2048, .f32⟩
  | .local _ .vmem, ⟨2, _⟩ => ⟨S3x8x32x32, .f32⟩
  | .local _ .vmem, ⟨3, _⟩ => ⟨S8x4096x2048, .fp8e4m3⟩
  | .local _ .vmem, ⟨4, _⟩ => ⟨S8x4096x2048, .fp8e4m3⟩
  | .local _ .vmem, ⟨5, _⟩ => ⟨S8x4096x2048, .fp8e4m3⟩
  | .local _ .vmem, ⟨6, _⟩ => ⟨S3x8x4096x2048, .f32⟩
  | .local _ .vmem, ⟨7, _⟩ => ⟨S3x8x32x32, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_0 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_1 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_cst_6 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S3x8x4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8x4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x8x4096x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x8x32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelLoop.lean ====
/- The outer loop of the attention kernel (`Kernel`): one trip computes the output rows of one block of 128 queries.
   The inner loop over the key blocks before the diagonal is gone through by its generated invariant; the invariant of the
   outer loop is stated here: the code, scale and scratch buffers are only read, the output window holds the pieces
   of the trips done so far. -/
module

public import proofs.«01_k».proof.Proof.Gen.Kernel.Loops
public import Idealize.ShloMosaic.Lib.Ring

@[expose] public section

set_option maxRecDepth 8192
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One trip's resources: what the region reads (arg8, arg12, arg13, arg14, arg15, arg16) at its
   contents, what it writes (arg5) at any. -/
abbrev Trip_k0_t1 (c : Dev nD) (arg8 : Memref sig .tc .vmem S1x4096x128 .fp8e4m3) (arg12 : Memref sig .tc .vmem S32x128x256 .fp8e4m3) (arg13 : Memref sig .tc .vmem S32x128x256 .fp8e4m3) (arg14 : Memref sig .tc .vmem S32x256 .f32) (arg15 : Memref sig .tc .vmem S32x256 .f32) (arg16 : Memref sig .tc .vmem S32x128 .f32) (arg5 : Memref sig .tc .vmem S1x4096x128 .bf16) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (f_arg5 : BufTy.Contents (Elt F) arg5.view.ty) : sProp (MT nD τ sig Unit (Elt F) ℕ (UR sig nD τ) ℕ) :=
  iprop((arg8.view.loc (c : Thread nD τ) ↦[arg8.view.set]{fullShare} X_arg8) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg5.view.loc (c : Thread nD τ) ↦[arg5.view.set]{fullShare} f_arg5))

/-- ONE TRIP of `k0_t1_loop` at a symbolic `k`, run by `sl_exec` (its rectangles' offsets closed
   forms of `k`, their geometry linear arithmetic): the pieces it writes into arg5 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : Fin k0_t1_loop.trips) :
    { L_arg5 : List (View.Piece (Elt F) S1x4096x128 .bf16) // ∀ (E : Set ℕ) (f_arg5 : BufTy.Contents (Elt F) arg5.view.ty),
      Trip_k0_t1 (F := F) c arg8 arg12 arg13 arg14 arg15 arg16 arg5 X_arg8 X_arg12 X_arg13 X_arg14 X_arg15 X_arg16 f_arg5
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k PUnit.unit)
          (fun _ => Trip_k0_t1 (F := F) c arg8 arg12 arg13 arg14 arg15 arg16 arg5 X_arg8 X_arg12 X_arg13 X_arg14 X_arg15 X_arg16 (arg5.view.writes (Elt F) f_arg5 L_arg5)) } := by
  have hk : k.val < 32 := Nat.lt_of_lt_of_le k.isLt k0_t1_abs.2.1
  refine ⟨?_, fun E f_arg5 => ?run⟩
  case run =>
    unfold k0_t1_body
    iintro ⟨HR_arg8, HR_arg12, HR_arg13, HR_arg14, HR_arg15, HR_arg16, HW_arg5⟩
    simp only [k0_part3_eq_skeleton, k0_part4_eq_skeleton]
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : Fin k0_t1_loop.trips) : List (View.Piece (Elt F) S1x4096x128 .bf16) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : ℕ) (prev : List (View.Piece (Elt F) S1x4096x128 .bf16)) : List (View.Piece (Elt F) S1x4096x128 .bf16) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 ⟨k, h⟩) ++ prev
  else prev

/-- The pieces of the trips before `k` (last first), per written memref. -/
def pb_k0_t1 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) : ℕ → List (View.Piece (Elt F) S1x4096x128 .bf16)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k)

theorem pb_k0_t1_succ (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k.val) := by
  rw [pb_k0_t1.eq_2]; unfold pb_k0_t1Step; exact dif_pos k.isLt

/-- THE INVARIANT before trip `k`: arg8, arg12, arg13, arg14, arg15, arg16 read at `X_·`; arg5
   holding the pieces of the trips before `k` written over the contents at loop entry `G_·` (stated
   `∃ f, … ∗ ⌜f = …⌝`, so that a hypothesis of any contents matches and the equation is what is
   proved). -/
abbrev inv_k0_t1 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg5 : BufTy.Contents (Elt F) arg5.view.ty) (k : ℕ) (_u : PUnit) : sProp (MT nD τ sig Unit (Elt F) ℕ (UR sig nD τ) ℕ) :=
  iprop((arg8.view.loc (c : Thread nD τ) ↦[arg8.view.set]{fullShare} X_arg8) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (∃ f, (arg5.view.loc (c : Thread nD τ) ↦[arg5.view.set]{fullShare} f) ∗ ⌜f = arg5.view.writes (Elt F) G_arg5 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg5 : BufTy.Contents (Elt F) arg5.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 G_arg5
  step k acc := by
    iintro ⟨HR_arg8, HR_arg12, HR_arg13, HR_arg14, HR_arg15, HR_arg16, ⟨%f_arg5, HW_arg5, %h_arg5⟩⟩
    iapply (wp_wand_r Idealize.ShloMosaic.frame (wpE (defs₀ (F := F)) 𝒱 (c : Thread nD τ) bd) E)
    isplitl [HR_arg8 HR_arg12 HR_arg13 HR_arg14 HR_arg15 HR_arg16 HW_arg5]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).2 E f_arg5)
      isplitl [HR_arg8]; · iexact HR_arg8
      isplitl [HR_arg12]; · iexact HR_arg12
      isplitl [HR_arg13]; · iexact HR_arg13
      isplitl [HR_arg14]; · iexact HR_arg14
      isplitl [HR_arg15]; · iexact HR_arg15
      isplitl [HR_arg16]; · iexact HR_arg16
      iexact HW_arg5
    · iintro %_ ⟨HR_arg8, HR_arg12, HR_arg13, HR_arg14, HR_arg15, HR_arg16, HW_arg5⟩
      isplitl [HR_arg8]; · iexact HR_arg8
      isplitl [HR_arg12]; · iexact HR_arg12
      isplitl [HR_arg13]; · iexact HR_arg13
      isplitl [HR_arg14]; · iexact HR_arg14
      isplitl [HR_arg15]; · iexact HR_arg15
      isplitl [HR_arg16]; · iexact HR_arg16
      rw [pb_k0_t1_succ]
      iexists _; isplitl [HW_arg5]; · iexact HW_arg5
      ipureintro; rw [h_arg5, ← View.writes_append]

end Cert.Kernel.Hand

end
-- ==== Proof.KernelStage.lean ====
/- The staging and scratch buffers the body of the attention kernel (`Kernel`) runs on, by name. -/
module

public import proofs.«01_k».proof.Proof.Gen.Kernel.Frame
public import proofs.«01_k».proof.Proof.Gen.Kernel.Skeleton
public import proofs.«01_k».proof.Proof.KernelLoop

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v1, main_v2, main_v3, main_v4, main_v5, main_v6, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c))⟩) h

/-- Each window's current staging memref at point `t`, spelled as the pipeline passes it (`bodyAt0`), and its wholeness. -/
abbrev ms0_0 (t : Fin cfg0.N) : Memref sig .tc .vmem S1x4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x32x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4096x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x32x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S32x128x256 .fp8e4m3 := Memref.whole cc0_scratch0
abbrev scM0_1 : Memref sig .tc .vmem S32x128x256 .fp8e4m3 := Memref.whole cc0_scratch1
abbrev scM0_2 : Memref sig .tc .vmem S32x256 .f32 := Memref.whole cc0_scratch2
abbrev scM0_3 : Memref sig .tc .vmem S32x256 .f32 := Memref.whole cc0_scratch3
abbrev scM0_4 : Memref sig .tc .vmem S32x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KernelRun.lean ====
/- The run of the whole body of the attention kernel (`Kernel`) at one grid point, on any staging buffers. -/
module

public import proofs.«01_k».proof.Proof.KernelStage

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 5484000 in
/-- The body's triple: on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_fp8_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_fp8_attn_eq_skeleton]; unfold cc0_fp8_attn_skel
    simp only [k0_part82_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Hand

end
-- ==== Proof.KernelFrame.lean ====
/- The frame of the attention kernel's program (`Kernel`): every run ends with the arguments as they were. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.IdealLoop.lean ====
/- The outer loop of the attention kernel (`KernelIdeal`): one trip computes the output rows of one block of 128 queries.
   The inner loop over the key blocks before the diagonal is gone through by its generated invariant; the invariant of the
   outer loop is stated here: the code, scale and scratch buffers are only read, the output window holds the pieces
   of the trips done so far. -/
module

public import proofs.«01_k».proof.Proof.Gen.KernelIdeal.Loops
public import Idealize.ShloMosaic.Lib.Ring

@[expose] public section

set_option maxRecDepth 8192
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- One trip's resources: what the region reads (arg8, arg12, arg13, arg14, arg15, arg16) at its
   contents, what it writes (arg5) at any. -/
abbrev Trip_k0_t1 (c : Dev nD) (arg8 : Memref sig .tc .vmem S1x4096x128 .fp8e4m3) (arg12 : Memref sig .tc .vmem S32x128x256 .fp8e4m3) (arg13 : Memref sig .tc .vmem S32x128x256 .fp8e4m3) (arg14 : Memref sig .tc .vmem S32x256 .f32) (arg15 : Memref sig .tc .vmem S32x256 .f32) (arg16 : Memref sig .tc .vmem S32x128 .f32) (arg5 : Memref sig .tc .vmem S1x4096x128 .bf16) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (f_arg5 : BufTy.Contents (Elt F) arg5.view.ty) : sProp (MT nD τ sig Unit (Elt F) ℕ (UR sig nD τ) ℕ) :=
  iprop((arg8.view.loc (c : Thread nD τ) ↦[arg8.view.set]{fullShare} X_arg8) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg5.view.loc (c : Thread nD τ) ↦[arg5.view.set]{fullShare} f_arg5))

/-- ONE TRIP of `k0_t1_loop` at a symbolic `k`, run by `sl_exec` (its rectangles' offsets closed
   forms of `k`, their geometry linear arithmetic): the pieces it writes into arg5 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : Fin k0_t1_loop.trips) :
    { L_arg5 : List (View.Piece (Elt F) S1x4096x128 .bf16) // ∀ (E : Set ℕ) (f_arg5 : BufTy.Contents (Elt F) arg5.view.ty),
      Trip_k0_t1 (F := F) c arg8 arg12 arg13 arg14 arg15 arg16 arg5 X_arg8 X_arg12 X_arg13 X_arg14 X_arg15 X_arg16 f_arg5
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k PUnit.unit)
          (fun _ => Trip_k0_t1 (F := F) c arg8 arg12 arg13 arg14 arg15 arg16 arg5 X_arg8 X_arg12 X_arg13 X_arg14 X_arg15 X_arg16 (arg5.view.writes (Elt F) f_arg5 L_arg5)) } := by
  have hk : k.val < 32 := Nat.lt_of_lt_of_le k.isLt k0_t1_abs.2.1
  refine ⟨?_, fun E f_arg5 => ?run⟩
  case run =>
    unfold k0_t1_body
    iintro ⟨HR_arg8, HR_arg12, HR_arg13, HR_arg14, HR_arg15, HR_arg16, HW_arg5⟩
    simp only [k0_part3_eq_skeleton, k0_part4_eq_skeleton]
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : Fin k0_t1_loop.trips) : List (View.Piece (Elt F) S1x4096x128 .bf16) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : ℕ) (prev : List (View.Piece (Elt F) S1x4096x128 .bf16)) : List (View.Piece (Elt F) S1x4096x128 .bf16) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 ⟨k, h⟩) ++ prev
  else prev

/-- The pieces of the trips before `k` (last first), per written memref. -/
def pb_k0_t1 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) : ℕ → List (View.Piece (Elt F) S1x4096x128 .bf16)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k)

theorem pb_k0_t1_succ (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k.val) := by
  rw [pb_k0_t1.eq_2]; unfold pb_k0_t1Step; exact dif_pos k.isLt

/-- THE INVARIANT before trip `k`: arg8, arg12, arg13, arg14, arg15, arg16 read at `X_·`; arg5
   holding the pieces of the trips before `k` written over the contents at loop entry `G_·` (stated
   `∃ f, … ∗ ⌜f = …⌝`, so that a hypothesis of any contents matches and the equation is what is
   proved). -/
abbrev inv_k0_t1 (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg5 : BufTy.Contents (Elt F) arg5.view.ty) (k : ℕ) (_u : PUnit) : sProp (MT nD τ sig Unit (Elt F) ℕ (UR sig nD τ) ℕ) :=
  iprop((arg8.view.loc (c : Thread nD τ) ↦[arg8.view.set]{fullShare} X_arg8) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (∃ f, (arg5.view.loc (c : Thread nD τ) ↦[arg5.view.set]{fullShare} f) ∗ ⌜f = arg5.view.writes (Elt F) G_arg5 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (G_arg5 : BufTy.Contents (Elt F) arg5.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 G_arg5
  step k acc := by
    iintro ⟨HR_arg8, HR_arg12, HR_arg13, HR_arg14, HR_arg15, HR_arg16, ⟨%f_arg5, HW_arg5, %h_arg5⟩⟩
    iapply (wp_wand_r Idealize.ShloMosaic.frame (wpE (defs₀ (F := F)) 𝒱 (c : Thread nD τ) bd) E)
    isplitl [HR_arg8 HR_arg12 HR_arg13 HR_arg14 HR_arg15 HR_arg16 HW_arg5]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).2 E f_arg5)
      isplitl [HR_arg8]; · iexact HR_arg8
      isplitl [HR_arg12]; · iexact HR_arg12
      isplitl [HR_arg13]; · iexact HR_arg13
      isplitl [HR_arg14]; · iexact HR_arg14
      isplitl [HR_arg15]; · iexact HR_arg15
      isplitl [HR_arg16]; · iexact HR_arg16
      iexact HW_arg5
    · iintro %_ ⟨HR_arg8, HR_arg12, HR_arg13, HR_arg14, HR_arg15, HR_arg16, HW_arg5⟩
      isplitl [HR_arg8]; · iexact HR_arg8
      isplitl [HR_arg12]; · iexact HR_arg12
      isplitl [HR_arg13]; · iexact HR_arg13
      isplitl [HR_arg14]; · iexact HR_arg14
      isplitl [HR_arg15]; · iexact HR_arg15
      isplitl [HR_arg16]; · iexact HR_arg16
      rw [pb_k0_t1_succ]
      iexists _; isplitl [HW_arg5]; · iexact HW_arg5
      ipureintro; rw [h_arg5, ← View.writes_append]

end Cert.KernelIdeal.Hand

end
-- ==== Proof.IdealStage.lean ====
/- The staging and scratch buffers the body of the attention kernel (`KernelIdeal`) runs on, by name. -/
module

public import proofs.«01_k».proof.Proof.Gen.KernelIdeal.Frame
public import proofs.«01_k».proof.Proof.Gen.KernelIdeal.Skeleton
public import proofs.«01_k».proof.Proof.IdealLoop

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- One staging buffer of output window 3, through which its contents are stated (`View.read_writes_of_cover`: the
    choice does not matter). -/
abbrev VO0_3 : View sig .tc .vmem S1x4096x128 .bf16 := (Memref.whole cc0_stg3_0 : Memref sig .tc .vmem S1x4096x128 .bf16).view
/-- One staging buffer of output window 4, through which its contents are stated (`View.read_writes_of_cover`: the
    choice does not matter). -/
abbrev VO0_4 : View sig .tc .vmem S1x4096x128 .fp8e4m3 := (Memref.whole cc0_stg4_0 : Memref sig .tc .vmem S1x4096x128 .fp8e4m3).view
/-- One staging buffer of output window 5, through which its contents are stated (`View.read_writes_of_cover`: the
    choice does not matter). -/
abbrev VO0_5 : View sig .tc .vmem S1x1x32x128 .f32 := (Memref.whole cc0_stg5_0 : Memref sig .tc .vmem S1x1x32x128 .f32).view
/-- One staging buffer of output window 6, through which its contents are stated (`View.read_writes_of_cover`: the
    choice does not matter). -/
abbrev VO0_6 : View sig .tc .vmem S1x4096x128 .fp8e4m3 := (Memref.whole cc0_stg6_0 : Memref sig .tc .vmem S1x4096x128 .fp8e4m3).view
/-- One staging buffer of output window 7, through which its contents are stated (`View.read_writes_of_cover`: the
    choice does not matter). -/
abbrev VO0_7 : View sig .tc .vmem S1x1x32x128 .f32 := (Memref.whole cc0_stg7_0 : Memref sig .tc .vmem S1x1x32x128 .f32).view
/-- One staging buffer of output window 8, through which its contents are stated (`View.read_writes_of_cover`: the
    choice does not matter). -/
abbrev VO0_8 : View sig .tc .vmem S1x4096x128 .fp8e4m3 := (Memref.whole cc0_stg8_0 : Memref sig .tc .vmem S1x4096x128 .fp8e4m3).view
/-- One staging buffer of output window 9, through which its contents are stated (`View.read_writes_of_cover`: the
    choice does not matter). -/
abbrev VO0_9 : View sig .tc .vmem S1x1x32x128 .f32 := (Memref.whole cc0_stg9_0 : Memref sig .tc .vmem S1x1x32x128 .f32).view
/-- Each window's current staging memref at point `t`, spelled as the pipeline passes it (`bodyAt0`), and its wholeness. -/
abbrev ms0_0 (t : Fin cfg0.N) : Memref sig .tc .vmem S1x4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x32x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4096x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x32x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S32x128x256 .fp8e4m3 := Memref.whole cc0_scratch0
abbrev scM0_1 : Memref sig .tc .vmem S32x128x256 .fp8e4m3 := Memref.whole cc0_scratch1
abbrev scM0_2 : Memref sig .tc .vmem S32x256 .f32 := Memref.whole cc0_scratch2
abbrev scM0_3 : Memref sig .tc .vmem S32x256 .f32 := Memref.whole cc0_scratch3
abbrev scM0_4 : Memref sig .tc .vmem S32x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.IdealRun.lean ====
/- The run of the whole body of the attention kernel (`KernelIdeal`) at one grid point, on any staging buffers. -/
module

public import proofs.«01_k».proof.Proof.IdealStage

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 5484000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) :
    Σ' (L3 : List (View.Piece (Elt F) S1x4096x128 .bf16)), Σ' (L4 : List (View.Piece (Elt F) S1x4096x128 .fp8e4m3)), Σ' (L5 : List (View.Piece (Elt F) S1x1x32x128 .f32)), Σ' (L6 : List (View.Piece (Elt F) S1x4096x128 .fp8e4m3)), Σ' (L7 : List (View.Piece (Elt F) S1x1x32x128 .f32)), Σ' (L8 : List (View.Piece (Elt F) S1x4096x128 .fp8e4m3)), { L9 : List (View.Piece (Elt F) S1x1x32x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_fp8_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_fp8_attn_eq_skeleton]; unfold cc0_fp8_attn_skel
    simp only [k0_part82_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Hand

end
-- ==== Proof.IdealFrame.lean ====
/- The frame of the attention kernel's program (`KernelIdeal`): every run ends with the arguments as they were. -/
module

public import proofs.«01_k».proof.Proof.IdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-- The run's pieces for output 3 tile its block (32 stores of `S1x128x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) (y : S1x4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).1 S1x128x128.size (by sl_kernel_rfl) y

/-- What the run leaves in output 3's staging buffer: its pieces read back over junk. -/
def out0_A_3 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) : Vec F S1x4096x128 .bf16 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).1)

/-- The run's pieces for output 4 tile its block (32 stores of `S1x128x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) (y : S1x4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 S1x128x128.size (by sl_kernel_rfl) y

/-- What the run leaves in output 4's staging buffer: its pieces read back over junk. -/
def out0_A_4 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) : Vec F S1x4096x128 .fp8e4m3 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.1)

/-- The run's pieces for output 5 tile its block (1 store of `S1x1x32x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) (y : S1x1x32x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 S1x1x32x128.size (by sl_kernel_rfl) y

/-- What the run leaves in output 5's staging buffer: its pieces read back over junk. -/
def out0_A_5 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) : Vec F S1x1x32x128 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1)

/-- The run's pieces for output 6 tile its block (32 stores of `S1x128x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) (y : S1x4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 S1x128x128.size (by sl_kernel_rfl) y

/-- What the run leaves in output 6's staging buffer: its pieces read back over junk. -/
def out0_A_6 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) : Vec F S1x4096x128 .fp8e4m3 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1)

/-- The run's pieces for output 7 tile its block (1 store of `S1x1x32x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) (y : S1x1x32x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.1 S1x1x32x128.size (by sl_kernel_rfl) y

/-- What the run leaves in output 7's staging buffer: its pieces read back over junk. -/
def out0_A_7 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) : Vec F S1x1x32x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.1)

/-- The run's pieces for output 8 tile its block (32 stores of `S1x128x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) (y : S1x4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.2.1 S1x128x128.size (by sl_kernel_rfl) y

/-- What the run leaves in output 8's staging buffer: its pieces read back over junk. -/
def out0_A_8 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) : Vec F S1x4096x128 .fp8e4m3 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.2.1)

/-- The run's pieces for output 9 tile its block (1 store of `S1x1x32x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) (y : S1x1x32x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.2.2.1 S1x1x32x128.size (by sl_kernel_rfl) y

/-- What the run leaves in output 9's staging buffer: its pieces read back over junk. -/
def out0_A_9 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
    (x0 : Vec F S1x4096x128 .bf16) (x1 : Vec F S1x4096x128 .bf16) (x2 : Vec F S1x4096x128 .bf16) : Vec F S1x1x32x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x4096x128 .bf16 × Vec F S1x4096x128 .fp8e4m3 × Vec F S1x1x32x128 .f32 × Vec F S1x4096x128 .fp8e4m3 × Vec F S1x1x32x128 .f32 × Vec F S1x4096x128 .fp8e4m3 × Vec F S1x1x32x128 .f32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2.1
    | ⟨6, _⟩ => (outsAt0 m c t).2.2.2.1
    | ⟨7, _⟩ => (outsAt0 m c t).2.2.2.2.1
    | ⟨8, _⟩ => (outsAt0 m c t).2.2.2.2.2.1
    | ⟨9, _⟩ => (outsAt0 m c t).2.2.2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2.1 := by dsimp only [dats]
theorem after0_6 (c : Dev nD) (t : Fin cfg0.N) : (dats m 0 c).after 6 t = (outsAt0 m c t).2.2.2.1 := by dsimp only [dats]
theorem after0_7 (c : Dev nD) (t : Fin cfg0.N) : (dats m 0 c).after 7 t = (outsAt0 m c t).2.2.2.2.1 := by dsimp only [dats]
theorem after0_8 (c : Dev nD) (t : Fin cfg0.N) : (dats m 0 c).after 8 t = (outsAt0 m c t).2.2.2.2.2.1 := by dsimp only [dats]
theorem after0_9 (c : Dev nD) (t : Fin cfg0.N) : (dats m 0 c).after 9 t = (outsAt0 m c t).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0
  unfold out0_A_3 out0_A_4 out0_A_5 out0_A_6 out0_A_7 out0_A_8 out0_A_9; (try dsimp only)
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ _ _ (iblk m c 0 t) (iblk m c 1 t) (iblk m c 2 t)).2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, ⟨%e3, H3⟩, ⟨%e4, H4⟩, ⟨%e5, H5⟩, ⟨%e6, H6⟩, ⟨%e7, H7⟩, ⟨%e8, H8⟩, ⟨%e9, H9⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Quant.lean ====
/- The quantiser over the extended reals, on scalars: the exponent of a block's scale from the block's largest absolute
   value, the scale, its inverse, the code of an element; and when these are real numbers. -/
module

public import Idealize.ShloMosaic.PureOps.Ideal
public import Idealize.ShloMosaic.PureOps.Ideal.Laws

@[expose] public section

noncomputable section

namespace Cert.Quant

open Idealize.ShloMosaic

/-- The exponent of the scale of a block whose largest absolute value is `a`. -/
def expo (a : EReal) : EReal :=
  if a = 0 then 0
  else Ideal.liftRound Int.floor (Ideal.log (a * Ideal.ofBits .f32 0x3B124925#32) * (((Real.log 2)⁻¹ : ℝ) : EReal)) + 1

/-- The scale. -/
def scl (a : EReal) : EReal := Ideal.exp2 (expo a)

/-- The inverse of the scale. -/
def inv (a : EReal) : EReal := Ideal.exp2 (0 - expo a)

/-- The code of an element `t` of a block of largest absolute value `a`. -/
def code (t a : EReal) : EReal :=
  min (Ideal.ofBits .f32 0x43E00000#32) (max (Ideal.ofBits .f32 0xC3E00000#32) (t * inv a))

/-- `1/448` as the programs spell it is a positive real. -/
theorem c448 : ∃ r : ℝ, 0 < r ∧ Ideal.ofBits .f32 0x3B124925#32 = (r : EReal) := by
  refine ⟨_, ?_, by simp [Ideal.ofBits, Ideal.ieee, -EReal.coe_mul]; rfl⟩
  positivity

theorem c_448 : Ideal.ofBits .f32 0x43E00000#32 = ((448 : ℝ) : EReal) := by
  simp [Ideal.ofBits, Ideal.ieee, -EReal.coe_mul]; norm_num

theorem c_n448 : Ideal.ofBits .f32 0xC3E00000#32 = ((-448 : ℝ) : EReal) := by
  simp [Ideal.ofBits, Ideal.ieee, -EReal.coe_mul]; norm_num

theorem expo_real (r : ℝ) (h : 0 ≤ r) : ∃ e : ℝ, expo r = e := by
  obtain ⟨q, hq, e⟩ := c448
  unfold expo
  split_ifs with h0
  · exact ⟨0, rfl⟩
  · have hr : 0 < r := lt_of_le_of_ne h fun h' => h0 (by rw [← h']; rfl)
    rw [e, ← EReal.coe_mul, Ideal.log_coe, if_neg (not_le.2 (mul_pos hr hq)), ← EReal.coe_mul, Ideal.liftRound_coe]
    exact ⟨_, (EReal.coe_add _ 1).symm⟩

theorem scl_real (r : ℝ) (h : 0 ≤ r) : ∃ s : ℝ, 0 < s ∧ scl r = s := by
  obtain ⟨e, he⟩ := expo_real r h
  exact ⟨Real.rpow 2 e, Real.rpow_pos_of_pos two_pos e, by rw [scl, he, Ideal.exp2_coe]⟩

theorem expo_top : expo ⊤ = ⊤ := by
  obtain ⟨q, hq, e⟩ := c448
  have h2 : (0 : ℝ) < (Real.log 2)⁻¹ := inv_pos.2 (Real.log_pos one_lt_two)
  rw [expo, if_neg (by decide), e, EReal.top_mul_coe_of_pos hq, Ideal.log_top, EReal.top_mul_coe_of_pos h2,
    Ideal.liftRound_top]
  rfl

theorem inv_top : inv ⊤ = 0 := by
  rw [inv, expo_top, show (0 : EReal) - ⊤ = ⊥ from rfl, Ideal.exp2_bot]

/-- A code is a real number, whatever the element and the block. -/
theorem code_real (t a : EReal) : ∃ r : ℝ, code t a = r := by
  unfold code
  rw [c_448, c_n448]
  generalize t * inv a = z
  induction z with
  | bot => exact ⟨-448, by rw [max_eq_left bot_le, min_eq_right (by norm_cast)]⟩
  | top => exact ⟨448, by rw [max_eq_right le_top, min_eq_left le_top]⟩
  | coe z => exact ⟨min 448 (max (-448) z), by push_cast; rfl⟩

theorem code_top (t : EReal) : code t ⊤ = 0 := by
  rw [code, inv_top, mul_zero, c_448, c_n448, max_eq_right, min_eq_right] <;> norm_cast <;> norm_num

/-- A code times the scale of its block, as a real number. -/
def deq (t a : EReal) : ℝ := (code t a * scl a).toReal

/-- A code times the scale of its block is a real number, whatever the block (the largest absolute value is not negative). -/
theorem code_scl (t a : EReal) (ha : 0 ≤ a) : code t a * scl a = (deq t a : EReal) := by
  obtain ⟨q, hq⟩ := code_real t a
  unfold deq
  induction a with
  | bot => exact absurd ha (by decide)
  | top => rw [code_top, zero_mul]; rfl
  | coe a =>
    obtain ⟨s, -, hs⟩ := scl_real a (by exact_mod_cast ha)
    rw [hq, hs, ← EReal.coe_mul, EReal.toReal_coe]

theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- The scale may be taken out of a weighted sum of the codes of one block. -/
theorem sum_code_scl {ι : Type} (s : Finset ι) (p : ι → ℝ) (t : ι → EReal) (a : EReal) (ha : 0 ≤ a) :
    (∑ k ∈ s, code (t k) a * (p k : EReal)) * scl a = ((∑ k ∈ s, p k * deq (t k) a : ℝ) : EReal) := by
  induction a with
  | bot => exact absurd ha (by decide)
  | top =>
    have h0 : ∀ k, deq (t k) ⊤ = 0 := fun k => by rw [deq, code_top, zero_mul]; rfl
    simp only [code_top, zero_mul, Finset.sum_const_zero, h0, mul_zero, EReal.coe_zero]
  | coe a =>
    obtain ⟨c, -, hc⟩ := scl_real a (by exact_mod_cast ha)
    choose q hq using fun k => code_real (t k) (a : EReal)
    have hd : ∀ k, deq (t k) a = q k * c := fun k => by rw [deq, hq, hc, ← EReal.coe_mul, EReal.toReal_coe]
    simp only [hq, hc, hd, ← EReal.coe_mul]
    rw [← coe_sum, ← EReal.coe_mul, Finset.sum_mul]
    congr 1
    exact Finset.sum_congr rfl fun k _ => by ring

end Cert.Quant

end
-- ==== Proof.KScale.lean ====
/- The scale one grid point of the kernel computes from a block `x` of 4096 rows and 128 columns (two heads of 64 columns):
   the largest absolute value of each head over each 128 rows, by six rounds of exchange between columns, then the power
   of two above it. -/
module

public import proofs.«01_k».proof.Proof.IdealFrame
public import Idealize.ShloMosaic.Lib.Pointwise
public import proofs.«01_k».proof.Proof.Quant

@[expose] public section

set_option maxRecDepth 16384

noncomputable section

namespace Cert.KernelIdeal.Hand

open Cert.KernelIdeal.Gen Idealize.ShloMosaic

/-- The column numbers. -/
def lanes : IVec S32x128 32 := iota .tc S32x128 32 [1] iota_S32x128_d1_w32

/-- One round of exchange: every column takes the maximum with the column whose number differs in one bit. -/
def rnd (hi lo : BitVec 32) (a : FVec Ideal S32x128 .f32) : FVec Ideal S32x128 .f32 :=
  maximumf a (select (cmpi .eq (andi lanes (broadcast S32x128 lo)) (broadcast S32x128 0#32))
    (dynamicRotate 1 hi none a rotates_S32x128_d1) (dynamicRotate 1 lo none a rotates_S32x128_d1))

/-- The largest absolute value of each head (in each of its 64 columns) over each 128 rows. -/
def headMax (x : Vec Ideal S1x4096x128 .bf16) : FVec Ideal S32x128 .f32 :=
  rnd 96#32 32#32 (rnd 112#32 16#32 (rnd 120#32 8#32 (rnd 124#32 4#32 (rnd 126#32 2#32 (rnd 127#32 1#32 (k0_pay38 x))))))

/-- The exponent of the scale. -/
def expoV (a : FVec Ideal S32x128 .f32) : FVec Ideal S32x128 .f32 :=
  select (cmpf .oeq a (broadcast S32x128 (Scalar.ofBits .f32 0x00000000#32)))
    (broadcast S32x128 (Scalar.sitofp .f32 0#32))
    (addf (floor (mulf (log (mulf a (broadcast S32x128 (Scalar.ofBits .f32 0x3B124925#32))))
      (broadcast S32x128 (Named.named κ "log2e" 0x3FB8AA3B#32)))) (broadcast S32x128 (Scalar.ofBits .f32 0x3F800000#32)))

/-- The scale of each head and 128 rows, in each column. -/
def scaleV (x : Vec Ideal S1x4096x128 .bf16) : FVec Ideal S32x128 .f32 := exp2 (expoV (headMax x))

/-- Its inverse. -/
def invV (x : Vec Ideal S1x4096x128 .bf16) : FVec Ideal S32x128 .f32 :=
  exp2 (subf (broadcast S32x128 (Scalar.ofBits .f32 0x00000000#32)) (expoV (headMax x)))

/-- The exchange partner's value. -/
def sel (hi lo : BitVec 32) (a : FVec Ideal S32x128 .f32) : FVec Ideal S32x128 .f32 :=
  select (cmpi .eq (andi lanes (broadcast S32x128 lo)) (broadcast S32x128 0#32))
    (dynamicRotate 1 hi none a rotates_S32x128_d1) (dynamicRotate 1 lo none a rotates_S32x128_d1)

theorem pay35_eq (a : FVec Ideal S32x128 .f32) :
    k0_pay35 lanes a (sel 120#32 8#32 a) = expoV (rnd 96#32 32#32 (rnd 112#32 16#32 (rnd 120#32 8#32 a))) := by
  have h1 : rnd 120#32 8#32 a = maximumf a (sel 120#32 8#32 a) := rfl
  rw [h1]
  generalize sel 120#32 8#32 a = b
  unfold k0_pay35
  rfl

theorem pay40_eq (a : FVec Ideal S32x128 .f32) : k0_pay40 lanes a 96#32 = expoV (rnd 96#32 32#32 a) := rfl

theorem pay47_eq (a : FVec Ideal S32x128 .f32) :
    k0_pay47 a (mulf a (broadcast S32x128 (Scalar.ofBits .f32 0x3B124925#32))) = expoV a := rfl

section
variable (c : Dev nD) (arg : Memref sig .tc .vmem S1x4096x128 .bf16) (harg : arg.IsWhole) (x : Vec Ideal S1x4096x128 .bf16)

/-- A load of a whole staging buffer is its contents. -/
theorem whole_ld : View.readAt (Elt Ideal) arg.view (Rect.unit ![0, 0, 0] S1x4096x128.size inb_S1x4096x128_S1x4096x128_0_0_0).toLoadRect
    (harg.unread x) = x := by
  have h0 : (![0, 0, 0] : Fin 3 → ℕ) = fun _ => 0 := by decide
  rw [View.readAt_eq_ld, harg.read_unread, View.ld_unit_zero h0]

theorem v5_eq : kernelRun0_A.sl.v5 c arg harg x = k0_pay38 x := by
  conv_rhs => rw [← whole_ld arg harg x]
  rfl
theorem v14_eq : kernelRun0_A.sl.v14 c arg harg x = rnd 127#32 1#32 (kernelRun0_A.sl.v5 c arg harg x) := rfl
theorem v22_eq : kernelRun0_A.sl.v22 c arg harg x = rnd 126#32 2#32 (kernelRun0_A.sl.v14 c arg harg x) := rfl
theorem v30_eq : kernelRun0_A.sl.v30 c arg harg x = rnd 124#32 4#32 (kernelRun0_A.sl.v22 c arg harg x) := rfl

theorem v37_eq : kernelRun0_A.sl.v37 c arg harg x = sel 120#32 8#32 (kernelRun0_A.sl.v30 c arg harg x) := rfl

theorem r_2_eq : kernelRun0_A.sl.r_2 c arg harg x = k0_pay38 x := by
  conv_rhs => rw [← whole_ld arg harg x]
  rfl
theorem v86_eq : kernelRun0_A.sl.v86 c arg harg x = rnd 127#32 1#32 (kernelRun0_A.sl.r_2 c arg harg x) := rfl
theorem v94_eq : kernelRun0_A.sl.v94 c arg harg x = rnd 126#32 2#32 (kernelRun0_A.sl.v86 c arg harg x) := rfl
theorem v102_eq : kernelRun0_A.sl.v102 c arg harg x = rnd 124#32 4#32 (kernelRun0_A.sl.v94 c arg harg x) := rfl
theorem v110_eq : kernelRun0_A.sl.v110 c arg harg x = rnd 120#32 8#32 (kernelRun0_A.sl.v102 c arg harg x) := rfl
theorem v118_eq : kernelRun0_A.sl.v118 c arg harg x = rnd 112#32 16#32 (kernelRun0_A.sl.v110 c arg harg x) := rfl

theorem r_5_eq : kernelRun0_A.sl.r_5 c arg harg x = rnd 127#32 1#32 (k0_pay38 x) := by
  conv_rhs => rw [← whole_ld arg harg x]
  rfl
theorem r_6_eq : kernelRun0_A.sl.r_6 c arg harg x = dynamicRotate 1 126#32 none (kernelRun0_A.sl.r_5 c arg harg x) rotates_S32x128_d1 := rfl
theorem v166_eq : kernelRun0_A.sl.v166 c arg harg x = rnd 126#32 2#32 (kernelRun0_A.sl.r_5 c arg harg x) := rfl
theorem v174_eq : kernelRun0_A.sl.v174 c arg harg x = rnd 124#32 4#32 (kernelRun0_A.sl.v166 c arg harg x) := rfl
theorem v182_eq : kernelRun0_A.sl.v182 c arg harg x = rnd 120#32 8#32 (kernelRun0_A.sl.v174 c arg harg x) := rfl
theorem v190_eq : kernelRun0_A.sl.v190 c arg harg x = rnd 112#32 16#32 (kernelRun0_A.sl.v182 c arg harg x) := rfl
theorem v198_eq : kernelRun0_A.sl.v198 c arg harg x = rnd 96#32 32#32 (kernelRun0_A.sl.v190 c arg harg x) := rfl

theorem v200_eq : kernelRun0_A.sl.v200 c arg harg x = mulf (kernelRun0_A.sl.v198 c arg harg x) (broadcast S32x128 (Scalar.ofBits .f32 0x3B124925#32)) := rfl

theorem q_scale_eq : kernelRun0_A.sl.r c arg harg x = scaleV x := by
  have h : kernelRun0_A.sl.r c arg harg x = exp2 (k0_pay35 lanes (kernelRun0_A.sl.v30 c arg harg x) (kernelRun0_A.sl.v37 c arg harg x)) := rfl
  rw [h, v37_eq, pay35_eq, v30_eq, v22_eq, v14_eq, v5_eq]; rfl

theorem q_inv_eq : kernelRun0_A.sl.r_1 c arg harg x = invV x := by
  have h : kernelRun0_A.sl.r_1 c arg harg x = exp2 (subf (broadcast S32x128 (Scalar.ofBits .f32 0x00000000#32)) (k0_pay35 lanes (kernelRun0_A.sl.v30 c arg harg x) (kernelRun0_A.sl.v37 c arg harg x))) := rfl
  rw [h, v37_eq, pay35_eq, v30_eq, v22_eq, v14_eq, v5_eq]; rfl

theorem k_scale_eq : kernelRun0_A.sl.r_3 c arg harg x = scaleV x := by
  have h : kernelRun0_A.sl.r_3 c arg harg x = exp2 (k0_pay40 lanes (kernelRun0_A.sl.v118 c arg harg x) 96#32) := rfl
  rw [h, pay40_eq, v118_eq, v110_eq, v102_eq, v94_eq, v86_eq, r_2_eq]; rfl

theorem k_inv_eq : kernelRun0_A.sl.r_4 c arg harg x = invV x := by
  have h : kernelRun0_A.sl.r_4 c arg harg x = exp2 (subf (broadcast S32x128 (Scalar.ofBits .f32 0x00000000#32)) (k0_pay40 lanes (kernelRun0_A.sl.v118 c arg harg x) 96#32)) := rfl
  rw [h, pay40_eq, v118_eq, v110_eq, v102_eq, v94_eq, v86_eq, r_2_eq]; rfl

theorem v_scale_eq : kernelRun0_A.sl.r_7 c arg harg x = scaleV x := by
  have h : kernelRun0_A.sl.r_7 c arg harg x = exp2 (k0_pay47 (kernelRun0_A.sl.v198 c arg harg x) (kernelRun0_A.sl.v200 c arg harg x)) := rfl
  rw [h, v200_eq, pay47_eq, v198_eq, v190_eq, v182_eq, v174_eq, v166_eq, r_5_eq]; rfl

theorem v_inv_eq : kernelRun0_A.sl.r_8 c arg harg x = invV x := by
  have h : kernelRun0_A.sl.r_8 c arg harg x = exp2 (subf (broadcast S32x128 (Scalar.ofBits .f32 0x00000000#32)) (k0_pay47 (kernelRun0_A.sl.v198 c arg harg x) (kernelRun0_A.sl.v200 c arg harg x))) := rfl
  rw [h, v200_eq, pay47_eq, v198_eq, v190_eq, v182_eq, v174_eq, v166_eq, r_5_eq]; rfl

end

/-- The column paired with `l` in the round of distance `n`. -/
def mate (n : ℕ) (l : Fin 128) : Fin 128 :=
  ⟨(if l.val / n % 2 = 0 then l.val + n else l.val - n) % 128, Nat.mod_lt _ (by decide)⟩

theorem rnd_apply (n : ℕ) (hi lo : BitVec 32) (a : FVec Ideal S32x128 .f32) (g : Fin 32) (l : Fin 128)
    (hbit : IntOp.cmpi .eq (IntOp.andi (BitVec.ofNat 32 l.val) lo) 0#32 = if l.val / n % 2 = 0 then 1#1 else 0#1)
    (hhi : l.val / n % 2 = 0 → (l.val + 128 - hi.toNat % 128) % 128 = (l.val + n) % 128)
    (hlo : l.val / n % 2 ≠ 0 → (l.val + 128 - lo.toNat % 128) % 128 = (l.val - n) % 128) :
    rnd hi lo a (ix2 g l) = max (a (ix2 g l)) (a (ix2 g (mate n l))) := by
  pointwise [rnd, lanes, mate]
  rw [hbit]
  by_cases h : l.val / n % 2 = 0
  · simp only [h, if_true, Scalar.select, hhi h]
    exact congrArg (max _) (if_pos rfl)
  · simp only [h, if_false, Scalar.select, hlo h, BitVec.reduceEq]

/-- What `n` rounds leave: the maximum over the `2^n` columns that share the leading bits. -/
def Spread (n : ℕ) (a b : FVec Ideal S32x128 .f32) : Prop :=
  ∀ (g : Fin 32) (l : Fin 128) (z : EReal), b (ix2 g l) ≤ z ↔ ∀ l' : Fin 128, l'.val / n = l.val / n → a (ix2 g l') ≤ z

theorem spread_rnd (n : ℕ) (hi lo : BitVec 32) (a b : FVec Ideal S32x128 .f32) (hs : Spread n a b)
    (hbit : ∀ l : Fin 128, IntOp.cmpi .eq (IntOp.andi (BitVec.ofNat 32 l.val) lo) 0#32 = if l.val / n % 2 = 0 then 1#1 else 0#1)
    (hhi : ∀ l : Fin 128, l.val / n % 2 = 0 → (l.val + 128 - hi.toNat % 128) % 128 = (l.val + n) % 128)
    (hlo : ∀ l : Fin 128, l.val / n % 2 ≠ 0 → (l.val + 128 - lo.toNat % 128) % 128 = (l.val - n) % 128)
    (hm : ∀ l l' : Fin 128, l'.val / (2 * n) = l.val / (2 * n) ↔ l'.val / n = l.val / n ∨ l'.val / n = (mate n l).val / n) :
    Spread (2 * n) a (rnd hi lo b) := by
  intro g l z
  rw [rnd_apply n hi lo b g l (hbit l) (hhi l) (hlo l), max_le_iff, hs, hs]
  constructor
  · rintro ⟨h1, h2⟩ l' hl'
    rcases (hm l l').1 hl' with h | h
    · exact h1 l' h
    · exact h2 l' h
  · intro h
    exact ⟨fun l' h' => h l' ((hm l l').2 (.inl h')), fun l' h' => h l' ((hm l l').2 (.inr h'))⟩

theorem mate_class (n : ℕ) (hn : n = 1 ∨ n = 2 ∨ n = 4 ∨ n = 8 ∨ n = 16 ∨ n = 32) (l l' : Fin 128) :
    l'.val / (2 * n) = l.val / (2 * n) ↔ l'.val / n = l.val / n ∨ l'.val / n = (mate n l).val / n := by
  have h := l.isLt
  have h' := l'.isLt
  have hv : (mate n l).val = (if l.val / n % 2 = 0 then l.val + n else l.val - n) % 128 := rfl
  rw [hv]
  rcases hn with rfl | rfl | rfl | rfl | rfl | rfl <;> split_ifs <;> omega

theorem spread_headMax (x : Vec Ideal S1x4096x128 .bf16) : Spread 64 (k0_pay38 x) (headMax x) := by
  have h0 : Spread 1 (k0_pay38 x) (k0_pay38 x) := by
    intro g l z
    constructor
    · intro h l' hl'
      obtain rfl : l' = l := Fin.ext (by omega)
      exact h
    · intro h; exact h l rfl
  have h1 := spread_rnd 1 127#32 1#32 _ _ h0 (by decide) (by decide) (by decide) (mate_class 1 (by decide))
  have h2 := spread_rnd 2 126#32 2#32 _ _ h1 (by decide) (by decide) (by decide) (mate_class 2 (by decide))
  have h3 := spread_rnd 4 124#32 4#32 _ _ h2 (by decide) (by decide) (by decide) (mate_class 4 (by decide))
  have h4 := spread_rnd 8 120#32 8#32 _ _ h3 (by decide) (by decide) (by decide) (mate_class 8 (by decide))
  have h5 := spread_rnd 16 112#32 16#32 _ _ h4 (by decide) (by decide) (by decide) (mate_class 16 (by decide))
  exact spread_rnd 32 96#32 32#32 _ _ h5 (by decide) (by decide) (by decide) (mate_class 32 (by decide))

theorem pay38_le (x : Vec Ideal S1x4096x128 .bf16) (g : Fin 32) (l : Fin 128) (z : EReal) :
    k0_pay38 (F := Ideal) x (ix2 g l) ≤ z ↔
      ∀ r : Fin 128, max (x (ix3 0 ⟨g.val * 128 + r.val, by omega⟩ l)) (-(x (ix3 0 ⟨g.val * 128 + r.val, by omega⟩ l))) ≤ z := by
  pointwise [k0_pay38]
  rw [Finset.fold_max_le]
  have hb : Ideal.ofBits .bf16 65408#16 = ⊥ := by simp [Ideal.ofBits, Ideal.ieee]
  rw [hb]
  simp only [bot_le, true_and, Finset.mem_univ, true_imp_iff, Ideal.absf_def]

/-- The head's largest absolute value, by what it is at most. -/
theorem headMax_le (x : Vec Ideal S1x4096x128 .bf16) (g : Fin 32) (l : Fin 128) (z : EReal) :
    headMax x (ix2 g l) ≤ z ↔ ∀ l' : Fin 128, l'.val / 64 = l.val / 64 → ∀ r : Fin 128,
      max (x (ix3 0 ⟨g.val * 128 + r.val, by omega⟩ l')) (-(x (ix3 0 ⟨g.val * 128 + r.val, by omega⟩ l'))) ≤ z := by
  rw [spread_headMax x g l z]
  simp only [pay38_le]

theorem expoV_apply (a : FVec Ideal S32x128 .f32) (j : S32x128.Idx) : expoV a j = Cert.Quant.expo (a j) := by
  pointwise [expoV, Cert.Quant.expo]
  rw [IdealRules.named_const.ideal_named_scalar _ _ _ _ rfl]
  simp

theorem scaleV_apply (x : Vec Ideal S1x4096x128 .bf16) (j : S32x128.Idx) : scaleV x j = Cert.Quant.scl (headMax x j) := by
  unfold scaleV Cert.Quant.scl
  generalize headMax x = a
  pointwise
  rw [expoV_apply]
  rfl

theorem invV_apply (x : Vec Ideal S1x4096x128 .bf16) (j : S32x128.Idx) : invV x j = Cert.Quant.inv (headMax x j) := by
  unfold invV Cert.Quant.inv
  generalize headMax x = a
  pointwise
  rw [expoV_apply]
  simp
  rfl

end Cert.KernelIdeal.Hand

end
-- ==== Proof.KCodes.lean ====
/- The code blocks one grid point of the kernel stores: 32 blocks of 128 rows, each element the code of the block's element
   by the inverse scale of its head and rows; and the transposed copies it keeps for the products. -/
module

public import proofs.«01_k».proof.Proof.KScale

@[expose] public section

set_option maxRecDepth 16384

noncomputable section

namespace Cert.KernelIdeal.Hand

open Cert.KernelIdeal.Gen Idealize.ShloMosaic

theorem slices_row (k : Fin 32) : S32x128.Slices ![k.val, 0] S1x128 := by
  revert k; decide

theorem inb_rows (k : Fin 32) : ∀ a, (![0, 128 * k.val, 0] : Fin 3 → ℕ) a + S1x128x128.size a ≤ S1x4096x128.size a := by
  intro a
  have := k.isLt
  match a with
  | 0 => show 0 + 1 ≤ 1; omega
  | 1 => show 128 * k.val + 128 ≤ 4096; omega
  | 2 => show 0 + 128 ≤ 128; omega

/-- The 128 rows of block `k`, quantised with the inverse scales `iv`. -/
def codeBlk (iv : FVec Ideal S32x128 .f32) (k : Fin 32) (b : Vec Ideal S1x128x128 .bf16) : FVec Ideal S128x128 .f32 :=
  minimumf (broadcast S128x128 (Scalar.ofBits .f32 0x43E00000#32))
    (maximumf (broadcast S128x128 (Scalar.ofBits .f32 0xC3E00000#32))
      (mulf (extf .f32 (shapeCast S128x128 b shapeCasts_S1x128x128_S128x128) bitsLt_bf16_f32)
        (broadcastTo S128x128 (extractStridedSlice S1x128 ![k.val, 0] iv (slices_row k)) broadcasts_S1x128_S128x128)))

/-- The piece of the code output that holds block `k`. -/
def codePiece (arg : Memref sig .tc .vmem S1x4096x128 .bf16) (harg : arg.IsWhole) (x : Vec Ideal S1x4096x128 .bf16)
    (iv : FVec Ideal S32x128 .f32) (k : Fin 32) : View.Piece (Elt Ideal) S1x4096x128 .fp8e4m3 :=
  ⟨Rect.unit ![0, 128 * k.val, 0] S1x128x128.size (inb_rows k),
    shapeCast S1x128x128 (truncf .fp8e4m3 (codeBlk iv k
      (View.readAt (Elt Ideal) arg.view (Rect.unit (s := S1x4096x128) ![0, 128 * k.val, 0] S1x128x128.size (inb_rows k)).toLoadRect (harg.unread x)))
      bitsLt_fp8e4m3_f32) shapeCasts_S128x128_S1x128x128⟩

theorem inb_half (k : Fin 32) (r c : ℕ) (hr : r + 64 ≤ 128) (hc : c + 128 ≤ 256) :
    ∀ a, (![k.val, r, c] : Fin 3 → ℕ) a + S1x64x128.size a ≤ S32x128x256.size a := by
  intro a
  have := k.isLt
  match a with
  | 0 => show k.val + 1 ≤ 32; omega
  | 1 => show r + 64 ≤ 128; omega
  | 2 => show c + 128 ≤ 256; omega

/-- Block `k`'s codes transposed: one row per column of the block. -/
def codeT (arg : Memref sig .tc .vmem S1x4096x128 .bf16) (harg : arg.IsWhole) (x : Vec Ideal S1x4096x128 .bf16)
    (iv : FVec Ideal S32x128 .f32) (k : Fin 32) : FVec Ideal S128x128 .fp8e4m3 :=
  truncf .fp8e4m3 (transpose S128x128 [1, 0] (codeBlk iv k
      (View.readAt (Elt Ideal) arg.view (Rect.unit (s := S1x4096x128) ![0, 128 * k.val, 0] S1x128x128.size (inb_rows k)).toLoadRect (harg.unread x)))
      transposes_S128x128_p1_0_S128x128) bitsLt_fp8e4m3_f32

/-- The four pieces of the transposed copy of block `k`: the first head's columns on the left of the upper half, the second
    head's on the right of the lower half, zero elsewhere. -/
def halfPieces (arg : Memref sig .tc .vmem S1x4096x128 .bf16) (harg : arg.IsWhole) (x : Vec Ideal S1x4096x128 .bf16)
    (iv : FVec Ideal S32x128 .f32) (k : Fin 32) : List (View.Piece (Elt Ideal) S32x128x256 .fp8e4m3) :=
  [⟨Rect.unit ![k.val, 64, 128] S1x64x128.size (inb_half k 64 128 (by decide) (by decide)),
      shapeCast S1x64x128 (extractStridedSlice S64x128 ![64, 0] (codeT arg harg x iv k) slices_S128x128_o64_0_S64x128) shapeCasts_S64x128_S1x64x128⟩,
    ⟨Rect.unit ![k.val, 64, 0] S1x64x128.size (inb_half k 64 0 (by decide) (by decide)),
      shapeCast S1x64x128 (k0_pay57 (F := Ideal)) shapeCasts_S64x128_S1x64x128⟩,
    ⟨Rect.unit ![k.val, 0, 128] S1x64x128.size (inb_half k 0 128 (by decide) (by decide)),
      shapeCast S1x64x128 (k0_pay57 (F := Ideal)) shapeCasts_S64x128_S1x64x128⟩,
    ⟨Rect.unit ![k.val, 0, 0] S1x64x128.size (inb_half k 0 0 (by decide) (by decide)),
      shapeCast S1x64x128 (extractStridedSlice S64x128 ![0, 0] (codeT arg harg x iv k) slices_S128x128_o0_0_S64x128) shapeCasts_S64x128_S1x64x128⟩]

/-- The blocks, last first. -/
def blocks : List (Fin 32) := [⟨31, by decide⟩, ⟨30, by decide⟩, ⟨29, by decide⟩, ⟨28, by decide⟩, ⟨27, by decide⟩, ⟨26, by decide⟩, ⟨25, by decide⟩, ⟨24, by decide⟩, ⟨23, by decide⟩, ⟨22, by decide⟩, ⟨21, by decide⟩, ⟨20, by decide⟩, ⟨19, by decide⟩, ⟨18, by decide⟩, ⟨17, by decide⟩, ⟨16, by decide⟩, ⟨15, by decide⟩, ⟨14, by decide⟩, ⟨13, by decide⟩, ⟨12, by decide⟩, ⟨11, by decide⟩, ⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩]

section
variable (c : Dev nD) (arg : Memref sig .tc .vmem S1x4096x128 .bf16) (harg : arg.IsWhole) (x : Vec Ideal S1x4096x128 .bf16)

theorem q_codes_eq : kernelRun0_A.sl.H4_32 c arg harg x = blocks.map (codePiece arg harg x (kernelRun0_A.sl.r_1 c arg harg x)) := rfl
theorem k_codes_eq : kernelRun0_A.sl.H6_32 c arg harg x = blocks.map (codePiece arg harg x (kernelRun0_A.sl.r_4 c arg harg x)) := rfl
theorem v_codes_eq : kernelRun0_A.sl.H8_32 c arg harg x = blocks.map (codePiece arg harg x (kernelRun0_A.sl.r_8 c arg harg x)) := rfl

theorem qw_eq : kernelRun0_A.sl.HS0_128 c arg harg x = blocks.flatMap (halfPieces arg harg x (kernelRun0_A.sl.r_1 c arg harg x)) := rfl
theorem vt_eq : kernelRun0_A.sl.HS1_128 c arg harg x = blocks.flatMap (halfPieces arg harg x (kernelRun0_A.sl.r_8 c arg harg x)) := rfl

end

/-- The largest absolute value of head `h` over the 128 rows of block `g`. -/
def hm (x : Vec Ideal S1x4096x128 .bf16) (g : Fin 32) (h : Fin 2) : EReal := headMax x (ix2 g ⟨64 * h.val, by omega⟩)

theorem headMax_eq (x : Vec Ideal S1x4096x128 .bf16) (g : Fin 32) (l : Fin 128) (h : Fin 2) (hl : l.val / 64 = h.val) :
    headMax x (ix2 g l) = hm x g h := by
  have e : ∀ z : EReal, headMax x (ix2 g l) ≤ z ↔ hm x g h ≤ z := by
    intro z
    rw [headMax_le, hm, headMax_le]
    have : (64 * h.val) / 64 = l.val / 64 := by omega
    simp only [this]
  exact le_antisymm ((e _).2 le_rfl) ((e _).1 le_rfl)

/-- The codes of a block. -/
def codesOf (x : Vec Ideal S1x4096x128 .bf16) : Vec Ideal S1x4096x128 .fp8e4m3 :=
  fun i => Cert.Quant.code (x i) (hm x ⟨(i 1).val / 128, by have := (i 1).isLt; change (i 1).val < 4096 at this; omega⟩
    ⟨(i 2).val / 64, by have := (i 2).isLt; change (i 2).val < 128 at this; omega⟩)

theorem codeBlk_apply (iv : FVec Ideal S32x128 .f32) (k : Fin 32) (b : Vec Ideal S1x128x128 .bf16) (r c : Fin 128) :
    codeBlk iv k b (ix2 r c) = min (Ideal.ofBits .f32 0x43E00000#32)
      (max (Ideal.ofBits .f32 0xC3E00000#32) (b (ix3 0 r c) * iv (ix2 k c))) := by
  pointwise [codeBlk]

theorem blk_ld (arg : Memref sig .tc .vmem S1x4096x128 .bf16) (harg : arg.IsWhole) (x : Vec Ideal S1x4096x128 .bf16)
    (k : Fin 32) (r c : Fin 128) :
    View.readAt (Elt Ideal) arg.view (Rect.unit (s := S1x4096x128) ![0, 128 * k.val, 0] S1x128x128.size (inb_rows k)).toLoadRect
      (harg.unread x) (ix3 0 r c) = x (ix3 0 ⟨128 * k.val + r.val, by omega⟩ c) := by
  rw [View.readAt_eq_ld, harg.read_unread]
  refine congrArg x (funext fun a => Fin.ext ?_)
  match a with
  | 0 => rfl
  | 1 => show 128 * k.val + 1 * r.val = 128 * k.val + r.val; omega
  | 2 => show 0 + 1 * c.val = c.val; omega

theorem codeBlk_eq (arg : Memref sig .tc .vmem S1x4096x128 .bf16) (harg : arg.IsWhole) (x : Vec Ideal S1x4096x128 .bf16)
    (k : Fin 32) (r c : Fin 128) :
    codeBlk (invV x) k (View.readAt (Elt Ideal) arg.view (Rect.unit (s := S1x4096x128) ![0, 128 * k.val, 0] S1x128x128.size (inb_rows k)).toLoadRect (harg.unread x))
      (ix2 r c) = codesOf x (ix3 0 ⟨128 * k.val + r.val, by omega⟩ c) := by
  rw [codeBlk_apply, blk_ld, invV_apply, headMax_eq x k c ⟨c.val / 64, by omega⟩ rfl]
  unfold codesOf Cert.Quant.code
  have e : (⟨(128 * k.val + r.val) / 128, by omega⟩ : Fin 32) = k := Fin.ext (by show (128 * k.val + r.val) / 128 = k.val; omega)
  simp only [ix3_1, ix3_2, e]

theorem mem_blocks : ∀ k : Fin 32, k ∈ blocks := by decide

theorem codes_canon (arg : Memref sig .tc .vmem S1x4096x128 .bf16) (harg : arg.IsWhole) (x : Vec Ideal S1x4096x128 .bf16) :
    View.canon (blocks.map (codePiece arg harg x (invV x))) = codesOf x := by
  funext y
  refine View.canon_apply_of_pieces (codesOf x) _ ?_ y ?_
  · intro p hp
    obtain ⟨k, -, rfl⟩ := List.mem_map.1 hp
    intro j
    obtain ⟨j0, r, c, rfl⟩ : ∃ (a : Fin 1) (b c : Fin 128), j = ix3 a b c := ⟨j 0, j 1, j 2, eq_ix3 j⟩
    have e : (Rect.unit (s := S1x4096x128) ![0, 128 * k.val, 0] S1x128x128.size (inb_rows k)).emb (ix3 j0 r c)
        = ix3 0 ⟨128 * k.val + r.val, by omega⟩ c := by
      funext a
      refine Fin.ext ?_
      have h0 : j0.val = 0 := by omega
      match a with
      | 0 => show 0 + 1 * j0.val = 0; omega
      | 1 => show 128 * k.val + 1 * r.val = 128 * k.val + r.val; omega
      | 2 => show 0 + 1 * c.val = c.val; omega
    refine Eq.trans ?_ (congrArg (codesOf x) e.symm)
    rw [← codeBlk_eq arg harg x k r c]
    unfold codePiece
    generalize codeBlk _ _ _ = w
    pointwise
  · obtain ⟨j0, r, c, rfl⟩ : ∃ (a : Fin 1) (b : Fin 4096) (c : Fin 128), y = ix3 a b c := ⟨y 0, y 1, y 2, eq_ix3 y⟩
    refine ⟨_, List.mem_map.2 ⟨⟨r.val / 128, by omega⟩, mem_blocks _, rfl⟩, ?_⟩
    refine (Rect.mem_set_unit (inb := inb_rows ⟨r.val / 128, by omega⟩)).2 fun a => ?_
    match a with
    | 0 => show 0 ≤ j0.val ∧ j0.val < 0 + 1; omega
    | 1 => show 128 * (r.val / 128) ≤ r.val ∧ r.val < 128 * (r.val / 128) + 128; omega
    | 2 => show 0 ≤ c.val ∧ c.val < 0 + 128; omega

/-- The transposed copy: row `c` of block `b` holds column `c`'s codes, on the left for the first head and on the right for
    the second; zero elsewhere. -/
def wideOf (x : Vec Ideal S1x4096x128 .bf16) : Vec Ideal S32x128x256 .fp8e4m3 :=
  fun i => if (i 1).val / 64 = (i 2).val / 128 then
      codesOf x (ix3 0 ⟨128 * (i 0).val + (i 2).val % 128, by have := (i 0).isLt; change (i 0).val < 32 at this; omega⟩
        ⟨(i 1).val, (i 1).isLt⟩)
    else 0

theorem codeT_apply (arg : Memref sig .tc .vmem S1x4096x128 .bf16) (harg : arg.IsWhole) (x : Vec Ideal S1x4096x128 .bf16)
    (k : Fin 32) (c r : Fin 128) :
    codeT arg harg x (invV x) k (ix2 c r) = codesOf x (ix3 0 ⟨128 * k.val + r.val, by omega⟩ c) := by
  rw [← codeBlk_eq arg harg x k r c]
  unfold codeT
  generalize codeBlk _ _ _ = w
  pointwise

theorem pay57_apply (j : S64x128.Idx) : k0_pay57 (F := Ideal) j = 0 := by
  pointwise [k0_pay57]
  simp [Ideal.ofBits, Ideal.e4m3fn]

theorem emb_half (k : Fin 32) (r c : ℕ) (hr : r + 64 ≤ 128) (hc : c + 128 ≤ 256) (j0 : Fin 1) (a : Fin 64) (b : Fin 128) :
    (Rect.unit (s := S32x128x256) ![k.val, r, c] S1x64x128.size (inb_half k r c hr hc)).emb (ix3 j0 a b)
      = ix3 k ⟨r + a.val, by omega⟩ ⟨c + b.val, by omega⟩ := by
  funext i
  refine Fin.ext ?_
  have h0 : j0.val = 0 := by omega
  match i with
  | 0 => show k.val + 1 * j0.val = k.val; omega
  | 1 => show r + 1 * a.val = r + a.val; omega
  | 2 => show c + 1 * b.val = c + b.val; omega

theorem mem_half (k : Fin 32) (r c : ℕ) (hr : r + 64 ≤ 128) (hc : c + 128 ≤ 256) (a : Fin 128) (b : Fin 256)
    (ha : r ≤ a.val ∧ a.val < r + 64) (hb : c ≤ b.val ∧ b.val < c + 128) :
    (ix3 k a b : S32x128x256.Idx) ∈ (Rect.unit (s := S32x128x256) ![k.val, r, c] S1x64x128.size (inb_half k r c hr hc)).set := by
  refine Rect.mem_set_unit.2 fun i => ?_
  match i with
  | 0 => show k.val ≤ k.val ∧ k.val < k.val + 1; omega
  | 1 => exact ha
  | 2 => exact hb

theorem wide_at (x : Vec Ideal S1x4096x128 .bf16) (k : Fin 32) (a : Fin 128) (b : Fin 256) :
    wideOf x (ix3 k a b) = if a.val / 64 = b.val / 128 then codesOf x (ix3 0 ⟨128 * k.val + b.val % 128, by omega⟩ a) else 0 := rfl

theorem wide_cover (arg : Memref sig .tc .vmem S1x4096x128 .bf16) (harg : arg.IsWhole) (x : Vec Ideal S1x4096x128 .bf16)
    (iv : FVec Ideal S32x128 .f32) (y : S32x128x256.Idx) : ∃ p ∈ blocks.flatMap (halfPieces arg harg x iv), y ∈ p.1.set := by
  obtain ⟨k, a, b, rfl⟩ : ∃ (a : Fin 32) (b : Fin 128) (c : Fin 256), y = ix3 a b c := ⟨y 0, y 1, y 2, eq_ix3 y⟩
  have hp : ∀ p ∈ halfPieces arg harg x iv k, p ∈ blocks.flatMap (halfPieces arg harg x iv) := fun p h =>
    List.mem_flatMap.2 ⟨k, mem_blocks k, h⟩
  by_cases ha : a.val < 64 <;> by_cases hb : b.val < 128
  · exact ⟨_, hp _ (.tail _ (.tail _ (.tail _ (.head _)))), mem_half k 0 0 (by decide) (by decide) a b (by omega) (by omega)⟩
  · exact ⟨_, hp _ (.tail _ (.tail _ (.head _))), mem_half k 0 128 (by decide) (by decide) a b (by omega) (by omega)⟩
  · exact ⟨_, hp _ (.tail _ (.head _)), mem_half k 64 0 (by decide) (by decide) a b (by omega) (by omega)⟩
  · exact ⟨_, hp _ (.head _), mem_half k 64 128 (by decide) (by decide) a b (by omega) (by omega)⟩

theorem wide_canon (arg : Memref sig .tc .vmem S1x4096x128 .bf16) (harg : arg.IsWhole) (x : Vec Ideal S1x4096x128 .bf16) :
    View.canon (blocks.flatMap (halfPieces arg harg x (invV x))) = wideOf x := by
  funext y
  refine View.canon_apply_of_pieces (wideOf x) _ ?_ y (wide_cover arg harg x _ y)
  intro p hp
  obtain ⟨k, -, hp⟩ := List.mem_flatMap.1 hp
  unfold halfPieces at hp
  simp only [List.mem_cons, List.not_mem_nil, or_false] at hp
  have key := codeT_apply arg harg x k
  generalize codeT arg harg x (invV x) k = w at hp key
  rcases hp with rfl | rfl | rfl | rfl
  · intro j
    obtain ⟨j0, r, c, rfl⟩ : ∃ (a : Fin 1) (b : Fin 64) (c : Fin 128), j = ix3 a b c := ⟨j 0, j 1, j 2, eq_ix3 j⟩
    refine Eq.trans ?_ (congrArg (wideOf x) (emb_half k 64 128 (by decide) (by decide) j0 r c).symm)
    rw [wide_at, if_pos (by show (64 + r.val) / 64 = (128 + c.val) / 128; omega)]
    pointwise
    rw [key]
    congr 2
    exact Fin.ext (by show 128 * k.val + c.val = 128 * k.val + (128 + c.val) % 128; omega)
  · intro j
    obtain ⟨j0, r, c, rfl⟩ : ∃ (a : Fin 1) (b : Fin 64) (c : Fin 128), j = ix3 a b c := ⟨j 0, j 1, j 2, eq_ix3 j⟩
    refine Eq.trans ?_ (congrArg (wideOf x) (emb_half k 64 0 (by decide) (by decide) j0 r c).symm)
    rw [wide_at, if_neg (by show ¬ (64 + r.val) / 64 = (0 + c.val) / 128; omega)]
    pointwise
    rw [pay57_apply]
  · intro j
    obtain ⟨j0, r, c, rfl⟩ : ∃ (a : Fin 1) (b : Fin 64) (c : Fin 128), j = ix3 a b c := ⟨j 0, j 1, j 2, eq_ix3 j⟩
    refine Eq.trans ?_ (congrArg (wideOf x) (emb_half k 0 128 (by decide) (by decide) j0 r c).symm)
    rw [wide_at, if_neg (by show ¬ (0 + r.val) / 64 = (128 + c.val) / 128; omega)]
    pointwise
    rw [pay57_apply]
  · intro j
    obtain ⟨j0, r, c, rfl⟩ : ∃ (a : Fin 1) (b : Fin 64) (c : Fin 128), j = ix3 a b c := ⟨j 0, j 1, j 2, eq_ix3 j⟩
    refine Eq.trans ?_ (congrArg (wideOf x) (emb_half k 0 0 (by decide) (by decide) j0 r c).symm)
    rw [wide_at, if_pos (by show (0 + r.val) / 64 = (0 + c.val) / 128; omega)]
    pointwise
    rw [key]
    refine congrArg (codesOf x) (funext fun i => Fin.ext ?_)
    match i with
    | 0 => rfl
    | 1 => show 128 * k.val + c.val = 128 * k.val + c.val % 128; omega
    | 2 => rfl

/-- The scales of a block as stored. -/
def scalesOf (x : Vec Ideal S1x4096x128 .bf16) : Vec Ideal S1x1x32x128 .f32 :=
  fun i => Cert.Quant.scl (hm x ⟨(i 2).val, (i 2).isLt⟩ ⟨(i 3).val / 64, by have := (i 3).isLt; change (i 3).val < 128 at this; omega⟩)

theorem scales_cast (x : Vec Ideal S1x4096x128 .bf16) :
    shapeCast S1x1x32x128 (scaleV x) shapeCasts_S32x128_S1x1x32x128 = scalesOf x := by
  funext i
  obtain ⟨a, b, g, l, rfl⟩ : ∃ (a b : Fin 1) (g : Fin 32) (l : Fin 128), i = ix4 a b g l := ⟨i 0, i 1, i 2, i 3, eq_ix4 i⟩
  have key : scaleV x (ix2 g l) = scalesOf x (ix4 a b g l) := by
    rw [scaleV_apply, headMax_eq x g l ⟨l.val / 64, by omega⟩ rfl]; rfl
  rw [← key]
  generalize scaleV x = w
  pointwise

/-- The scales spread over the two halves: the first head's on the left, the second's on the right. -/
def spreadOf (x : Vec Ideal S1x4096x128 .bf16) : Vec Ideal S32x256 .f32 :=
  fun i => Cert.Quant.scl (hm x ⟨(i 0).val, (i 0).isLt⟩ ⟨(i 1).val / 128, by have := (i 1).isLt; change (i 1).val < 256 at this; omega⟩)

theorem below64 : ∀ l : Fin 128, IntOp.cmpi .slt (BitVec.ofNat 32 l.val) 64#32 = if l.val < 64 then 1#1 else 0#1 := by decide

theorem spread_scale (x : Vec Ideal S1x4096x128 .bf16) : k0_pay53 (F := Ideal) (scaleV x) = spreadOf x := by
  funext i
  obtain ⟨g, l, rfl⟩ : ∃ (g : Fin 32) (l : Fin 256), i = ix2 g l := ⟨i 0, i 1, eq_ix2 i⟩
  have key : ∀ (l' : Fin 128) (h : Fin 2), l'.val / 64 = h.val → scaleV x (ix2 g l') = Cert.Quant.scl (hm x g h) := by
    intro l' h e
    rw [scaleV_apply, headMax_eq x g l' h e]
  have goal : spreadOf x (ix2 g l) = Cert.Quant.scl (hm x g ⟨l.val / 128, by omega⟩) := rfl
  rw [goal]
  generalize scaleV x = w at key
  pointwise [k0_pay53]
  split
  · rename_i h
    have b := below64 ⟨l.val, h⟩
    simp only at b
    rw [b]
    by_cases h' : l.val < 64
    · rw [if_pos h']
      exact key _ _ (by show l.val / 64 = l.val / 128; omega)
    · rw [if_neg h']
      exact key _ _ (by show ((l.val + 128 - 64) % 128) / 64 = l.val / 128; omega)
  · rename_i h
    have b := below64 ⟨l.val - 128, by omega⟩
    simp only at b
    rw [b]
    by_cases h' : l.val - 128 < 64
    · rw [if_pos h']
      exact key _ _ (by show ((l.val - 128 + 128 - 64) % 128) / 64 = l.val / 128; omega)
    · rw [if_neg h']
      exact key _ _ (by show (l.val - 128) / 64 = l.val / 128; omega)

end Cert.KernelIdeal.Hand

end
-- ==== Proof.Softmax.lean ====
/- One step of a softmax with a running maximum over the extended reals: what the running maximum, the running sum of the
   weights and a running weighted sum hold after one more block of keys, as real numbers. The weights carry a factor 256
   (none when the unit of the scores is infinite: then every score is zero), and every sum the factor `exp (-M)` of the running
   maximum `M`; both go away in the last quotient. -/
module

public import proofs.«01_k».proof.Proof.Quant

@[expose] public section

noncomputable section

namespace Cert.Softmax

open Idealize.ShloMosaic

/-- A score `s` in units of `c` and its weight `e`: a real score and its exponential, or a masked score and zero. -/
def Wt (c : ℝ) (s : EReal) (e : ℝ) : Prop := (∃ r : ℝ, s = r ∧ e = Real.exp (r * c)) ∨ (s = ⊥ ∧ e = 0)

/-- A score `s` in units of `c` and its weight `e`, where the unit may be infinite. The factor `κ` of the weights is 256 for a
    real unit. For an infinite unit it is 1, and the score is zero or masked. -/
def Ut (κ : ℝ) (c s : EReal) (e : ℝ) : Prop :=
  (∃ r : ℝ, 0 < r ∧ c = r ∧ κ = 256 ∧ Wt r s e) ∨ (c = ⊤ ∧ κ = 1 ∧ ((s = 0 ∧ e = 1) ∨ (s = ⊥ ∧ e = 0)))

/-- The running maximum `m` and a running sum `a`: nothing yet, or the real sum `A` of the keys so far, times the factor `κ` of
    the weights, in units of the exponential of the maximum (which is 0 when the factor is 1). -/
def St (κ : ℝ) (m a : EReal) (A : ℝ) : Prop :=
  (m = ⊥ ∧ a = 0 ∧ A = 0) ∨ ∃ M : ℝ, m = M ∧ (κ = 1 → M = 0) ∧ a = ((κ * Real.exp (-M) * A : ℝ) : EReal)

/-- `M` is the new running maximum: a real number, above every score of the block. -/
theorem max_real {n : ℕ} (c : ℝ) (hc : 0 < c) (s : Fin n → EReal) (e : Fin n → ℝ) (hs : ∀ k, Wt c (s k) (e k))
    (k₀ : Fin n) (h₀ : s k₀ ≠ ⊥) (m : EReal) (hm : m = ⊥ ∨ ∃ M : ℝ, m = M) :
    ∃ M : ℝ, max m (Finset.fold max ⊥ s Finset.univ * (c : EReal)) = M ∧ ∀ k r, s k = ((r : ℝ) : EReal) → r * c ≤ M := by
  have hle : ∀ k, s k ≤ Finset.fold max ⊥ s Finset.univ := fun k =>
    (Finset.le_fold_max (s k)).2 (.inr ⟨k, Finset.mem_univ k, le_rfl⟩)
  have hF : ∃ f : ℝ, Finset.fold max ⊥ s Finset.univ = f := by
    have hnt : Finset.fold max ⊥ s Finset.univ ≠ ⊤ := by
      refine ne_of_lt ((Finset.fold_max_lt ⊤).2 ⟨bot_lt_top, fun k _ => ?_⟩)
      rcases hs k with ⟨r, h, -⟩ | ⟨h, -⟩
      · rw [h]; exact EReal.coe_lt_top r
      · rw [h]; exact bot_lt_top
    have hnb : Finset.fold max ⊥ s Finset.univ ≠ ⊥ := fun h => h₀ (le_bot_iff.1 (h ▸ hle k₀))
    exact ⟨_, (EReal.coe_toReal hnt hnb).symm⟩
  obtain ⟨f, hf⟩ := hF
  rw [hf] at hle ⊢
  have hb : ∀ k r, s k = ((r : ℝ) : EReal) → r * c ≤ f * c := fun k r h => by
    have := hle k
    rw [h, EReal.coe_le_coe_iff] at this
    exact mul_le_mul_of_nonneg_right this hc.le
  rcases hm with rfl | ⟨M, rfl⟩
  · exact ⟨f * c, by rw [max_eq_right bot_le, EReal.coe_mul], hb⟩
  · exact ⟨max M (f * c), by push_cast; rfl, fun k r h => (hb k r h).trans (le_max_right _ _)⟩

/-- The weight of a key as the block computes it. -/
theorem weight (c : ℝ) (hc : 0 < c) (s : EReal) (e : ℝ) (hs : Wt c s e) (M : ℝ) :
    Ideal.exp2 ((s - Ideal.div ((M : EReal) - ((8 * Real.log 2 : ℝ) : EReal)) (c : EReal)) * ((c : EReal) * (((Real.log 2)⁻¹ : ℝ) : EReal)))
      = ((256 * Real.exp (-M) * e : ℝ) : EReal) := by
  have hl : (0 : ℝ) < Real.log 2 := Real.log_pos one_lt_two
  have hc0 : ((c : ℝ) : EReal) ≠ 0 := by exact_mod_cast hc.ne'
  have hd : Ideal.div ((M : EReal) - ((8 * Real.log 2 : ℝ) : EReal)) (c : EReal) = (((M - 8 * Real.log 2) / c : ℝ) : EReal) := by
    rw [Ideal.div, if_neg hc0, ← EReal.coe_sub, ← EReal.coe_inv, ← EReal.coe_mul, div_eq_mul_inv]
  rw [hd, ← EReal.coe_mul]
  rcases hs with ⟨r, rfl, rfl⟩ | ⟨rfl, rfl⟩
  · rw [← EReal.coe_sub, ← EReal.coe_mul, Ideal.exp2_coe]
    congr 1
    have h256 : (256 : ℝ) = Real.exp (8 * Real.log 2) := by
      rw [mul_comm, Real.exp_mul, Real.exp_log two_pos]; norm_num
    rw [h256, ← Real.exp_add, ← Real.exp_add]
    show (2 : ℝ) ^ (_ : ℝ) = _
    rw [Real.rpow_def_of_pos two_pos]
    congr 1
    field_simp
    ring
  · rw [show (⊥ : EReal) - (((M - 8 * Real.log 2) / c : ℝ) : EReal) = ⊥ from rfl, EReal.bot_mul_coe_of_pos (mul_pos hc (inv_pos.2 hl)), Ideal.exp2_bot, mul_zero]
    rfl

/-- The weights need no clipping at 448. -/
theorem weight_clip (c : ℝ) (s : EReal) (e : ℝ) (hs : Wt c s e) (M : ℝ) (hM : ∀ r, s = ((r : ℝ) : EReal) → r * c ≤ M) :
    min (Ideal.ofBits .f32 0x43E00000#32) (max 0 ((256 * Real.exp (-M) * e : ℝ) : EReal)) = ((256 * Real.exp (-M) * e : ℝ) : EReal) := by
  have h : 0 ≤ 256 * Real.exp (-M) * e ∧ 256 * Real.exp (-M) * e ≤ 448 := by
    rcases hs with ⟨r, h, rfl⟩ | ⟨-, rfl⟩
    · refine ⟨by positivity, ?_⟩
      rw [mul_assoc, ← Real.exp_add]
      have := Real.exp_le_one_iff.2 (show -M + r * c ≤ 0 by have := hM r h; linarith)
      linarith
    · norm_num
  rw [Cert.Quant.c_448, max_eq_right (by exact_mod_cast h.1), min_eq_right (by exact_mod_cast h.2)]

/-- One block of keys: the new running maximum is a real number, and each weight, before and after clipping, is the
    exponential of its score times the factor, in units of the exponential of the maximum. -/
theorem block {n : ℕ} (κ : ℝ) (c : EReal) (s : Fin n → EReal) (e : Fin n → ℝ) (hs : ∀ k, Ut κ c (s k) (e k)) (k₀ : Fin n)
    (h₀ : s k₀ ≠ ⊥) (m : EReal) (hm : m = ⊥ ∨ ∃ M : ℝ, m = M ∧ (κ = 1 → M = 0)) :
    ∃ M : ℝ, max m (Finset.fold max ⊥ s Finset.univ * c) = M ∧ (κ = 1 → M = 0) ∧ ∀ k,
      Ideal.exp2 ((s k - Ideal.div ((M : EReal) - ((8 * Real.log 2 : ℝ) : EReal)) c) * (c * (((Real.log 2)⁻¹ : ℝ) : EReal)))
        = ((κ * Real.exp (-M) * e k : ℝ) : EReal) ∧
      min (Ideal.ofBits .f32 0x43E00000#32) (max 0 ((κ * Real.exp (-M) * e k : ℝ) : EReal)) = ((κ * Real.exp (-M) * e k : ℝ) : EReal) := by
  rcases hs k₀ with ⟨r, hr, rfl, rfl, -⟩ | ⟨rfl, rfl, -⟩
  · have hw : ∀ k, Wt r (s k) (e k) := fun k => by
      rcases hs k with ⟨r', -, h, -, w⟩ | ⟨h, -⟩
      · rw [EReal.coe_eq_coe_iff] at h; rwa [h]
      · exact absurd h (EReal.coe_ne_top r)
    obtain ⟨M, hM, hle⟩ := max_real r hr s e hw k₀ h₀ m (hm.imp_right fun ⟨M, h, _⟩ => ⟨M, h⟩)
    exact ⟨M, hM, fun h => absurd h (by norm_num), fun k => ⟨weight r hr _ _ (hw k) M, weight_clip r _ _ (hw k) M (hle k)⟩⟩
  · have hw : ∀ k, (s k = 0 ∧ e k = 1) ∨ (s k = ⊥ ∧ e k = 0) := fun k => by
      rcases hs k with ⟨r', -, h, -⟩ | ⟨-, -, w⟩
      · exact absurd h.symm (EReal.coe_ne_top r')
      · exact w
    have hF : Finset.fold max ⊥ s Finset.univ = 0 := by
      refine le_antisymm ((Finset.fold_max_le 0).2 ⟨bot_le, fun k _ => ?_⟩) ((Finset.le_fold_max 0).2 (.inr ⟨k₀, Finset.mem_univ _, ?_⟩))
      · rcases hw k with ⟨h, -⟩ | ⟨h, -⟩ <;> rw [h]
        exact bot_le
      · rcases hw k₀ with ⟨h, -⟩ | ⟨h, -⟩
        · rw [h]
        · exact absurd h h₀
    have hm0 : max m 0 = ((0 : ℝ) : EReal) := by
      rcases hm with rfl | ⟨M, rfl, h⟩
      · exact max_eq_right bot_le
      · rw [h rfl]; exact max_self _
    have hl : (0 : ℝ) < (Real.log 2)⁻¹ := inv_pos.2 (Real.log_pos one_lt_two)
    have hd : Ideal.div (((0 : ℝ) : EReal) - ((8 * Real.log 2 : ℝ) : EReal)) ⊤ = 0 := by
      rw [Ideal.div, if_neg (by decide), EReal.inv_top, mul_zero]
    refine ⟨0, by rw [hF, zero_mul, hm0], fun _ => rfl, fun k => ?_⟩
    rw [hd, EReal.top_mul_coe_of_pos hl, Quant.c_448, neg_zero, Real.exp_zero]
    rcases hw k with ⟨h, h'⟩ | ⟨h, h'⟩ <;> rw [h, h']
    · constructor
      · rw [sub_zero, zero_mul, ← EReal.coe_zero, Ideal.exp2_coe]; simp
      · rw [max_eq_right, min_eq_right] <;> norm_cast <;> norm_num
    · constructor
      · rw [sub_zero, EReal.bot_mul_top, Ideal.exp2_bot]; simp
      · rw [max_eq_right, min_eq_right] <;> norm_cast <;> norm_num

/-- A running sum brought to the new maximum. -/
theorem rescale (κ : ℝ) (m a : EReal) (A : ℝ) (h : St κ m a A) (M : ℝ) :
    a * Ideal.exp (m - (M : EReal)) = ((κ * Real.exp (-M) * A : ℝ) : EReal) := by
  rcases h with ⟨rfl, rfl, rfl⟩ | ⟨M₀, rfl, -, rfl⟩
  · rw [zero_mul, mul_zero]; rfl
  · rw [← EReal.coe_sub, Ideal.exp_coe, ← EReal.coe_mul]
    congr 1
    have : Real.exp (-M) = Real.exp (-M₀) * Real.exp (M₀ - M) := by rw [← Real.exp_add]; congr 1; ring
    rw [this]; ring

/-- The running sum of the weights after the block. -/
theorem step_sum {n : ℕ} (κ : ℝ) (m l : EReal) (L : ℝ) (h : St κ m l L) (M : ℝ) (e : Fin n → ℝ) :
    l * Ideal.exp (m - (M : EReal)) + ∑ k, ((κ * Real.exp (-M) * e k : ℝ) : EReal)
      = ((κ * Real.exp (-M) * (L + ∑ k, e k) : ℝ) : EReal) := by
  rw [rescale κ m l L h M, ← Cert.Quant.coe_sum, ← EReal.coe_add, ← Finset.mul_sum, mul_add]

/-- A running weighted sum after the block. -/
theorem step_acc {n : ℕ} (κ : ℝ) (m a : EReal) (A : ℝ) (h : St κ m a A) (M : ℝ) (e : Fin n → ℝ) (v : Fin n → EReal) (z : EReal) (hz : 0 ≤ z) :
    a * Ideal.exp (m - (M : EReal)) + (∑ k, Cert.Quant.code (v k) z * ((κ * Real.exp (-M) * e k : ℝ) : EReal)) * Cert.Quant.scl z
      = ((κ * Real.exp (-M) * (A + ∑ k, e k * Cert.Quant.deq (v k) z) : ℝ) : EReal) := by
  rw [rescale κ m a A h M, Cert.Quant.sum_code_scl _ _ _ _ hz, ← EReal.coe_add, mul_add, Finset.mul_sum]
  congr 2
  exact Finset.sum_congr rfl fun k _ => by ring

/-- The last quotient. -/
theorem quot (κ : ℝ) (hκ : 0 < κ) (M A L : ℝ) (hL : 0 < L) :
    Ideal.div ((κ * Real.exp (-M) * A : ℝ) : EReal) ((κ * Real.exp (-M) * L : ℝ) : EReal) = ((A / L : ℝ) : EReal) := by
  have h : (0 : ℝ) < κ * Real.exp (-M) := mul_pos hκ (Real.exp_pos _)
  have h0 : ((κ * Real.exp (-M) * L : ℝ) : EReal) ≠ 0 := by exact_mod_cast (mul_pos h hL).ne'
  rw [Ideal.div, if_neg h0, ← EReal.coe_inv, ← EReal.coe_mul, ← div_eq_mul_inv, mul_div_mul_left _ _ h.ne']

end Cert.Softmax

end
-- ==== Proof.Spec.lean ====
/- What the problem computes, head by head, as plain sums over the extended reals and the reals: the largest absolute value
   of each block of 128 rows of a head, the codes and scales of a head, and causal softmax attention over the codes. A head is
   an array of 4096 rows of 64 elements. -/
module

public import proofs.«01_k».proof.Proof.Softmax

@[expose] public section

noncomputable section

namespace Cert.Spec

open Idealize.ShloMosaic

/-- One head: 4096 rows of 64 elements. -/
abbrev Head := Fin 4096 → Fin 64 → EReal

/-- The block of 128 rows that row `s` is in. -/
def blk (s : Fin 4096) : Fin 32 := ⟨s.val / 128, by omega⟩

/-- Row `r` of block `g`. -/
def row (g : Fin 32) (r : Fin 128) : Fin 4096 := ⟨128 * g.val + r.val, by omega⟩

theorem blk_row (g : Fin 32) (r : Fin 128) : blk (row g r) = g := Fin.ext (by show (128 * g.val + r.val) / 128 = g.val; omega)

/-- The largest absolute value of a block. -/
def amax (x : Head) (g : Fin 32) : EReal :=
  Finset.univ.sup fun p : Fin 128 × Fin 64 => max (x (row g p.1) p.2) (-(x (row g p.1) p.2))

theorem amax_le (x : Head) (g : Fin 32) (z : EReal) :
    amax x g ≤ z ↔ ∀ r d, max (x (row g r) d) (-(x (row g r) d)) ≤ z := by
  unfold amax
  rw [Finset.sup_le_iff]
  exact ⟨fun h r d => h (r, d) (Finset.mem_univ _), fun h p _ => h p.1 p.2⟩

theorem eq_amax (x : Head) (g : Fin 32) (a : EReal) (h : ∀ z, a ≤ z ↔ ∀ r d, max (x (row g r) d) (-(x (row g r) d)) ≤ z) :
    a = amax x g :=
  le_antisymm ((h _).2 ((amax_le x g _).1 le_rfl)) ((amax_le x g _).2 ((h _).1 le_rfl))

theorem abs_nonneg (t : EReal) : 0 ≤ max t (-t) := by
  rcases le_total 0 t with h | h
  · exact le_max_of_le_left h
  · exact le_max_of_le_right (by rwa [EReal.neg_nonneg])

theorem amax_nonneg (x : Head) (g : Fin 32) : 0 ≤ amax x g :=
  (abs_nonneg _).trans ((amax_le x g _).1 le_rfl 0 0)

/-- The code of an element. -/
def code (x : Head) (s : Fin 4096) (d : Fin 64) : EReal := Quant.code (x s d) (amax x (blk s))

/-- The scale of a block. -/
def scl (x : Head) (g : Fin 32) : EReal := Quant.scl (amax x g)

/-- The code of an element times its scale, a real number. -/
def deq (x : Head) (s : Fin 4096) (d : Fin 64) : ℝ := Quant.deq (x s d) (amax x (blk s))

/-- The score of query row `s` and key row `t`, in codes. -/
def score (q k : Head) (s t : Fin 4096) : ℝ := ∑ d, (code q s d).toReal * (code k t d).toReal

/-- What a score is multiplied by: the two scales and an eighth. -/
def fac (q k : Head) (g h : Fin 32) : ℝ := (scl q g).toReal * (scl k h).toReal * (1 / 8)

/-- The weight of key row `t` for query row `s`. -/
def wgt (q k : Head) (s t : Fin 4096) : ℝ := if t ≤ s then Real.exp (score q k s t * fac q k (blk s) (blk t)) else 0

/-- The attention output of query row `s`, at column `d`. -/
def attn (q k v : Head) (s : Fin 4096) (d : Fin 64) : ℝ := (∑ t, wgt q k s t * deq v t d) / ∑ t, wgt q k s t

/-- Every element of the head is a real number. -/
def Fin' (x : Head) : Prop := ∀ s d, ∃ r : ℝ, x s d = r

theorem amax_real (x : Head) (hx : Fin' x) (g : Fin 32) : ∃ r : ℝ, 0 ≤ r ∧ amax x g = r := by
  have h0 := amax_nonneg x g
  have hb : amax x g ≠ ⊥ := fun h => by rw [h] at h0; exact absurd h0 (by decide)
  have ht : amax x g ≠ ⊤ := by
    refine ne_of_lt ?_
    unfold amax
    refine (Finset.sup_lt_iff bot_lt_top).2 fun p _ => ?_
    obtain ⟨r, hr⟩ := hx (row g p.1) p.2
    rw [hr]
    exact max_lt (EReal.coe_lt_top r) (by rw [← EReal.coe_neg]; exact EReal.coe_lt_top _)
  refine ⟨(amax x g).toReal, ?_, (EReal.coe_toReal ht hb).symm⟩
  exact EReal.toReal_nonneg h0

theorem scl_real (x : Head) (hx : Fin' x) (g : Fin 32) : ∃ r : ℝ, 0 < r ∧ scl x g = r := by
  obtain ⟨a, ha, e⟩ := amax_real x hx g
  obtain ⟨r, hr, e'⟩ := Quant.scl_real a ha
  exact ⟨r, hr, by rw [scl, e, e']⟩

theorem code_coe (x : Head) (s : Fin 4096) (d : Fin 64) : code x s d = ((code x s d).toReal : EReal) := by
  obtain ⟨r, hr⟩ := Quant.code_real (x s d) (amax x (blk s))
  unfold code
  rw [hr, EReal.toReal_coe]

theorem score_coe (q k : Head) (s t : Fin 4096) : ∑ d, code q s d * code k t d = (score q k s t : EReal) := by
  rw [score, Quant.coe_sum]
  exact Finset.sum_congr rfl fun d _ => by rw [EReal.coe_mul, ← code_coe, ← code_coe]

/-- The scale of a block is a positive real number, or it is infinite and the codes of the block are zero. -/
theorem scl_cases (x : Head) (g : Fin 32) : (∃ r : ℝ, 0 < r ∧ scl x g = r) ∨ (scl x g = ⊤ ∧ ∀ s d, blk s = g → code x s d = 0) := by
  have h0 := amax_nonneg x g
  have hb : amax x g ≠ ⊥ := fun h => by rw [h] at h0; exact absurd h0 (by decide)
  by_cases ht : amax x g = ⊤
  · exact .inr ⟨by rw [scl, ht, Quant.scl, Quant.expo_top, Ideal.exp2_top], fun s d h => by rw [code, h, ht, Quant.code_top]⟩
  · obtain ⟨r, hr, e⟩ := Quant.scl_real _ (EReal.toReal_nonneg h0)
    exact .inl ⟨r, hr, by rw [scl, ← e, EReal.coe_toReal ht hb]⟩

/-- What a score is multiplied by, as extended reals. -/
def unit (q k : Head) (g h : Fin 32) : EReal := scl q g * scl k h * ((1 / 8 : ℝ) : EReal)

open Classical in
/-- The factor the kernel's weights carry: 256, and 1 for a block of queries with an infinite scale. -/
def mult (q : Head) (g : Fin 32) : ℝ := if scl q g = ⊤ then 1 else 256

theorem mult_pos (q : Head) (g : Fin 32) : 0 < mult q g := by
  unfold mult
  split_ifs <;> norm_num

/-- A real unit with its factor, or an infinite one with zero scores. -/
theorem unit_cases (q k : Head) (hk : Fin' k) (g h : Fin 32) :
    (0 < fac q k g h ∧ unit q k g h = (fac q k g h : EReal) ∧ mult q g = 256)
    ∨ (fac q k g h = 0 ∧ unit q k g h = ⊤ ∧ mult q g = 1 ∧ ∀ s t, blk s = g → score q k s t = 0) := by
  obtain ⟨b, hb, eb⟩ := scl_real k hk h
  rcases scl_cases q g with ⟨a, ha, ea⟩ | ⟨ea, hc⟩
  · refine .inl ?_
    rw [fac, unit, mult, ea, eb, EReal.toReal_coe, EReal.toReal_coe, if_neg (EReal.coe_ne_top a)]
    exact ⟨by positivity, by push_cast; rfl, rfl⟩
  · refine .inr ?_
    rw [fac, unit, mult, ea, eb, EReal.toReal_top, zero_mul, zero_mul, if_pos rfl, EReal.top_mul_coe_of_pos hb,
      EReal.top_mul_coe_of_pos (by norm_num)]
    refine ⟨rfl, rfl, rfl, fun s t hs => Finset.sum_eq_zero fun d _ => ?_⟩
    rw [hc s d hs, EReal.toReal_zero, zero_mul]

/-- A score times its unit is a real number, whatever the queries. -/
theorem score_unit (q k : Head) (hk : Fin' k) (s t : Fin 4096) :
    (score q k s t : EReal) * unit q k (blk s) (blk t) = ((score q k s t * fac q k (blk s) (blk t) : ℝ) : EReal) := by
  rcases unit_cases q k hk (blk s) (blk t) with ⟨-, e, -⟩ | ⟨ef, e, -, h⟩
  · rw [e, EReal.coe_mul]
  · rw [h s t rfl, zero_mul, EReal.coe_zero, zero_mul]

/-- A score and its weight, in their unit. -/
theorem score_wt (q k : Head) (hk : Fin' k) (s t : Fin 4096) :
    Softmax.Ut (mult q (blk s)) (unit q k (blk s) (blk t)) (score q k s t) (Real.exp (score q k s t * fac q k (blk s) (blk t))) := by
  rcases unit_cases q k hk (blk s) (blk t) with ⟨hf, e, em⟩ | ⟨-, e, em, h⟩
  · exact .inl ⟨_, hf, e, em, .inl ⟨_, rfl, rfl⟩⟩
  · exact .inr ⟨e, em, .inl ⟨by rw [h s t rfl]; rfl, by rw [h s t rfl, zero_mul, Real.exp_zero]⟩⟩

/-- A masked score and its weight. -/
theorem mask_wt (q k : Head) (hk : Fin' k) (s t : Fin 4096) : Softmax.Ut (mult q (blk s)) (unit q k (blk s) (blk t)) ⊥ 0 := by
  rcases unit_cases q k hk (blk s) (blk t) with ⟨hf, e, em⟩ | ⟨-, e, em, -⟩
  · exact .inl ⟨_, hf, e, em, .inr ⟨rfl, rfl⟩⟩
  · exact .inr ⟨e, em, .inr ⟨rfl, rfl⟩⟩

theorem wgt_nonneg (q k : Head) (s t : Fin 4096) : 0 ≤ wgt q k s t := by
  unfold wgt
  split_ifs
  · exact (Real.exp_pos _).le
  · exact le_rfl

theorem wgt_sum_pos (q k : Head) (s : Fin 4096) : 0 < ∑ t, wgt q k s t := by
  refine Finset.sum_pos' (fun t _ => wgt_nonneg q k s t) ⟨s, Finset.mem_univ _, ?_⟩
  rw [wgt, if_pos le_rfl]
  exact Real.exp_pos _

/-- The sum of `f` over the rows of the first `n` blocks. -/
def part (f : Fin 4096 → ℝ) (n : ℕ) : ℝ := ∑ t, if t.val < 128 * n then f t else 0

theorem part_zero (f : Fin 4096 → ℝ) : part f 0 = 0 := by
  unfold part
  exact Finset.sum_eq_zero fun t _ => if_neg (by omega)

theorem part_succ (f : Fin 4096 → ℝ) (g : Fin 32) : part f (g.val + 1) = part f g.val + ∑ r, f (row g r) := by
  have h : ∀ t : Fin 4096, (if t.val < 128 * (g.val + 1) then f t else 0)
      = (if t.val < 128 * g.val then f t else 0) + if blk t = g then f t else 0 := by
    intro t
    have hb : blk t = g ↔ t.val / 128 = g.val := Fin.ext_iff
    simp only [hb]
    split_ifs <;> first | omega | simp
  unfold part
  rw [Finset.sum_congr rfl fun t _ => h t, Finset.sum_add_distrib]
  congr 1
  rw [← Finset.sum_filter]
  refine (Finset.sum_bij (fun (r : Fin 128) _ => row g r) ?_ ?_ ?_ ?_).symm
  · intro r _; exact Finset.mem_filter.2 ⟨Finset.mem_univ _, blk_row g r⟩
  · intro r _ r' _ h
    have := congrArg Fin.val h
    exact Fin.ext (by change 128 * g.val + r.val = 128 * g.val + r'.val at this; omega)
  · intro t ht
    have hb : t.val / 128 = g.val := Fin.ext_iff.1 (Finset.mem_filter.1 ht).2
    exact ⟨⟨t.val % 128, by omega⟩, Finset.mem_univ _, Fin.ext (by show 128 * g.val + t.val % 128 = t.val; omega)⟩
  · intro r _; rfl

/-- Blocks after the last one with a nonzero term do not count. -/
theorem part_all (f : Fin 4096 → ℝ) (n : ℕ) (h : ∀ t : Fin 4096, 128 * n ≤ t.val → f t = 0) : part f n = ∑ t, f t := by
  unfold part
  refine Finset.sum_congr rfl fun t _ => ?_
  split_ifs with ht
  · rfl
  · exact (h t (by omega)).symm

end Cert.Spec

end
-- ==== Proof.KTile.lean ====
/- What the attention payloads of the kernel compute at one element, for the two heads of a grid point side by side: the scores
   of a block of keys, the scale factor, the running maximum, the weights, the running sums, and the last quotient. -/
module

public import proofs.«01_k».proof.Proof.KCodes
public import proofs.«01_k».proof.Proof.Spec

@[expose] public section

set_option maxRecDepth 16384

noncomputable section

namespace Cert.KernelIdeal.Hand

open Cert.KernelIdeal.Gen Idealize.ShloMosaic Cert.Spec

/-- Column of query `r` of head `h`. -/
def col (h : Fin 2) (r : Fin 128) : Fin 256 := ⟨128 * h.val + r.val, by omega⟩

/-- Column `d` of head `h`. -/
def hcol (h : Fin 2) (d : Fin 64) : Fin 128 := ⟨64 * h.val + d.val, by omega⟩

/-- A sum of which only one half is not zero. -/
theorem half_sum (m N : ℕ) (hN : N = 2 * m) (hm : 0 < m) (h : Fin 2) (f : Fin N → EReal) (h0 : ∀ x : Fin N, x.val / m ≠ h.val → f x = 0) :
    ∑ x, f x = ∑ k : Fin m, f ⟨m * h.val + k.val, by have := h.isLt; have := k.isLt; subst hN; interval_cases hh : h.val <;> omega⟩ := by
  classical
  have hbnd : ∀ k : Fin m, m * h.val + k.val < N := fun k => by
    have := h.isLt; have := k.isLt; subst hN; interval_cases hh : h.val <;> omega
  rw [← Finset.sum_filter_add_sum_filter_not Finset.univ (fun x : Fin N => x.val / m = h.val),
    Finset.sum_eq_zero (s := Finset.univ.filter fun x : Fin N => ¬ x.val / m = h.val) (fun x hx => h0 x (Finset.mem_filter.1 hx).2), add_zero]
  refine (Finset.sum_bij (fun (k : Fin m) _ => (⟨m * h.val + k.val, hbnd k⟩ : Fin N)) ?_ ?_ ?_ ?_).symm
  · intro k _
    refine Finset.mem_filter.2 ⟨Finset.mem_univ _, ?_⟩
    show (m * h.val + k.val) / m = h.val
    rw [Nat.mul_add_div hm, Nat.div_eq_of_lt k.isLt, add_zero]
  · intro k _ k' _ e
    have := congrArg Fin.val e
    exact Fin.ext (by change m * h.val + k.val = m * h.val + k'.val at this; omega)
  · intro x hx
    have e := (Finset.mem_filter.1 hx).2
    refine ⟨⟨x.val % m, Nat.mod_lt _ hm⟩, Finset.mem_univ _, Fin.ext ?_⟩
    show m * h.val + x.val % m = x.val
    rw [← e]; exact Nat.div_add_mod _ _
  · intro k _; rfl

theorem c_bot : Ideal.ofBits .f32 0xFF800000#32 = ⊥ := by
  simp [Ideal.ofBits, Ideal.ieee]

theorem c_eighth : Ideal.ofBits .f32 0x3E000000#32 = ((1 / 8 : ℝ) : EReal) := by
  simp [Ideal.ofBits, Ideal.ieee, -EReal.coe_mul]; norm_num

theorem n_ln256 : (Named.named (F := Ideal) κ "ln256" (φ := .f32) 0x40B17218#32) = ((8 * Real.log 2 : ℝ) : EReal) :=
  IdealRules.named_const.ideal_named_scalar _ _ _ _ rfl

theorem n_log2e : (Named.named (F := Ideal) κ "log2e" (φ := .f32) 0x3FB8AA3B#32) = (((Real.log 2)⁻¹ : ℝ) : EReal) :=
  IdealRules.named_const.ideal_named_scalar _ _ _ _ rfl

section
variable (m l : FVec Ideal S1x256 .f32) (acc : FVec Ideal S128x128 .f32) (A : Vec Ideal S1x128x128 .fp8e4m3)
  (B E : Vec Ideal S1x128x256 .fp8e4m3) (C D : Vec Ideal S1x256 .f32) (G : Vec Ideal S1x128 .f32)

theorem pay7_apply (k : Fin 128) (j : Fin 256) : k0_pay7 A B (ix2 k j) = ∑ x, A (ix3 0 k x) * B (ix3 0 x j) := by
  pointwise [k0_pay7]

theorem pay8_apply (j : Fin 256) : k0_pay8 C D (ix2 0 j) = C (ix2 0 j) * D (ix2 0 j) * ((1 / 8 : ℝ) : EReal) := by
  rw [← c_eighth]
  pointwise [k0_pay8]

theorem pay9_apply (j : Fin 256) : k0_pay9 m A B C D (ix2 0 j)
    = max (m (ix2 0 j)) (Finset.fold max ⊥ (fun x => k0_pay7 A B (ix2 x j)) Finset.univ * k0_pay8 C D (ix2 0 j)) := by
  unfold k0_pay9
  rw [← c_bot]
  generalize k0_pay7 A B = s
  generalize k0_pay8 C D = cs
  pointwise

theorem pay10_apply (j : Fin 256) : k0_pay10 m A B C D (ix2 0 j) = Ideal.exp (m (ix2 0 j) - k0_pay9 m A B C D (ix2 0 j)) := by
  unfold k0_pay10
  generalize k0_pay9 m A B C D = s
  pointwise

theorem pay11_apply (k : Fin 128) (j : Fin 256) : k0_pay11 m A B C D (ix2 k j)
    = Ideal.exp2 ((k0_pay7 A B (ix2 k j) - Ideal.div (k0_pay9 m A B C D (ix2 0 j) - ((8 * Real.log 2 : ℝ) : EReal)) (k0_pay8 C D (ix2 0 j)))
        * (k0_pay8 C D (ix2 0 j) * (((Real.log 2)⁻¹ : ℝ) : EReal))) := by
  unfold k0_pay11
  rw [← n_ln256, ← n_log2e]
  generalize k0_pay9 m A B C D = m'
  generalize k0_pay7 A B = s
  generalize k0_pay8 C D = cs
  pointwise
  rfl

theorem pay12_apply (j : Fin 256) : k0_pay12 m l A B C D (ix2 0 j)
    = l (ix2 0 j) * k0_pay10 m A B C D (ix2 0 j) + ∑ x, k0_pay11 m A B C D (ix2 x j) := by
  unfold k0_pay12
  generalize k0_pay10 m A B C D = m'
  generalize k0_pay11 m A B C D = s
  pointwise

theorem pay13_apply (h : Fin 2) (k r : Fin 128) : k0_pay13 m A B C D (ix2 (col h k) r)
    = min (Ideal.ofBits .f32 0x43E00000#32) (max 0 (k0_pay11 m A B C D (ix2 k (col h r)))) := by
  unfold k0_pay13
  generalize k0_pay11 m A B C D = s
  match h with
  | 0 => pointwise [col]
  | 1 => pointwise [col]

theorem pay24_apply (P : FVec Ideal S256x128 .fp8e4m3) (h : Fin 2) (d : Fin 64) (r : Fin 128) :
    k0_pay24 acc m P E G (ix2 (hcol h d) r)
      = acc (ix2 (hcol h d) r) * m (ix2 0 (col h r)) + (∑ x, E (ix3 0 (hcol h d) x) * P (ix2 x r)) * G (ix2 0 (hcol h 0)) := by
  match h with
  | 0 => pointwise [k0_pay24, col, hcol]
  | 1 => pointwise [k0_pay24, col, hcol]

theorem and127 : ∀ l : Fin 256, IntOp.andi (BitVec.ofNat 32 l.val) 127#32 = BitVec.ofNat 32 (l.val % 128) := by decide

theorem sle_small (a b : ℕ) (ha : a < 128) (hb : b < 128) :
    IntOp.cmpi .sle (BitVec.ofNat 32 a) (BitVec.ofNat 32 b) = if a ≤ b then 1#1 else 0#1 := by
  have e : ∀ n, n < 128 → (BitVec.ofNat 32 n).toInt = n := fun n hn => by
    have h : ((n : ℤ)).bmod (2 ^ 32) = n := Int.bmod_eq_of_le (by norm_num) (by norm_num; omega)
    rw [BitVec.toInt_ofNat', h]
  simp only [IntOp.cmpi, BitVec.sle, e a ha, e b hb, Nat.cast_le]
  by_cases h : a ≤ b <;> simp [h]

theorem mask_apply (k : Fin 128) (h : Fin 2) (r : Fin 128) : k0_pay5 (ix2 k (col h r)) = if k ≤ r then 1#1 else 0#1 := by
  pointwise [k0_pay5, col]
  have e := and127 (col h r)
  simp only [col] at e
  have e' : (128 * h.val + r.val) % 128 = r.val := by omega
  rw [e, e', sle_small k.val r.val k.isLt r.isLt]
  rfl

theorem pay26_apply (k : Fin 128) (h : Fin 2) (r : Fin 128) : k0_pay26 k0_pay5 A B (ix2 k (col h r))
    = if k ≤ r then k0_pay7 A B (ix2 k (col h r)) else ⊥ := by
  have hm := mask_apply k h r
  unfold k0_pay26
  generalize k0_pay5 = M at hm
  rw [pay7_apply, ← c_bot]
  pointwise
  rw [hm]
  split_ifs <;> simp [Scalar.select]

theorem pay27_eq : k0_pay27 (F := Ideal) C D = k0_pay8 C D := rfl

theorem pay28_apply (M : IVec S128x256 1) (j : Fin 256) : k0_pay28 M m A B C D (ix2 0 j)
    = max (m (ix2 0 j)) (Finset.fold max ⊥ (fun x => k0_pay26 M A B (ix2 x j)) Finset.univ * k0_pay8 C D (ix2 0 j)) := by
  unfold k0_pay28
  rw [← c_bot, ← pay27_eq]
  generalize k0_pay26 M A B = s
  generalize k0_pay27 C D = cs
  pointwise

theorem pay29_apply (M : IVec S128x256 1) (j : Fin 256) : k0_pay29 M m A B C D (ix2 0 j) = Ideal.exp (m (ix2 0 j) - k0_pay28 M m A B C D (ix2 0 j)) := by
  unfold k0_pay29
  generalize k0_pay28 M m A B C D = s
  pointwise

/-- The weights of the last block of keys. -/
def lastP (M : IVec S128x256 1) : FVec Ideal S128x256 .f32 :=
  exp2 (mulf (k0_pay30 M m A B C D) (broadcastTo S128x256 (mulf (k0_pay8 C D) (k0_pay31 (F := Ideal))) broadcasts_S1x256_S128x256))

theorem lastP_apply (M : IVec S128x256 1) (k : Fin 128) (j : Fin 256) : lastP m A B C D M (ix2 k j)
    = Ideal.exp2 ((k0_pay26 M A B (ix2 k j) - Ideal.div (k0_pay28 M m A B C D (ix2 0 j) - ((8 * Real.log 2 : ℝ) : EReal)) (k0_pay8 C D (ix2 0 j)))
        * (k0_pay8 C D (ix2 0 j) * (((Real.log 2)⁻¹ : ℝ) : EReal))) := by
  unfold lastP k0_pay30 k0_pay31
  rw [← n_ln256, ← n_log2e, ← pay27_eq]
  generalize k0_pay28 M m A B C D = m'
  generalize k0_pay26 M A B = s
  generalize k0_pay27 C D = cs
  pointwise
  rfl

/-- The weights in codes, the two heads one above the other. -/
def stackP (P : FVec Ideal S128x256 .f32) : FVec Ideal S256x128 .fp8e4m3 :=
  let p : FVec Ideal S128x256 .fp8e4m3 := truncf .fp8e4m3 (minimumf (broadcast S128x256 (Scalar.ofBits .f32 0x43E00000#32)) (maximumf (broadcast S128x256 (Scalar.ofBits .f32 0x00000000#32)) P)) bitsLt_fp8e4m3_f32
  concatenate S256x128 0 [⟨S128x128, extractStridedSlice S128x128 ![0, 0] p slices_S128x256_o0_0_S128x128⟩,
    ⟨S128x128, extractStridedSlice S128x128 ![0, 128] p slices_S128x256_o0_128_S128x128⟩] concatenates_S128x128_S128x128_S256x128_d0

theorem stackP_apply (P : FVec Ideal S128x256 .f32) (h : Fin 2) (k r : Fin 128) : stackP P (ix2 (col h k) r)
    = min (Ideal.ofBits .f32 0x43E00000#32) (max 0 (P (ix2 k (col h r)))) := by
  match h with
  | 0 => pointwise [stackP, col]
  | 1 => pointwise [stackP, col]

/-- The last block's quotient, before the heads are turned back into columns. -/
def lastQ (al : FVec Ideal S1x256 .f32) (P : FVec Ideal S128x256 .f32) : FVec Ideal S128x128 .f32 :=
  let L : FVec Ideal S1x256 .f32 := addf (mulf l al) (shapeCast S1x256 (multiReduction .add [0] S256 P 0x00000000#32 reduces_S128x256_S256 (.inl rfl) rfl) shapeCasts_S256_S1x256)
  divf (k0_pay24 acc al (stackP P) E G)
    (concatenate S128x128 0 [⟨S64x128, broadcastTo S64x128 (shapeCast S1x128 (extractStridedSlice S1x128 ![0, 0] L slices_S1x256_o0_0_S1x128) shapeCasts_S1x128_S1x128) broadcasts_S1x128_S64x128⟩,
      ⟨S64x128, broadcastTo S64x128 (shapeCast S1x128 (extractStridedSlice S1x128 ![0, 128] L slices_S1x256_o0_128_S1x128) shapeCasts_S1x128_S1x128) broadcasts_S1x128_S64x128⟩] concatenates_S64x128_S64x128_S128x128_d0)

theorem lastQ_apply (al : FVec Ideal S1x256 .f32) (P : FVec Ideal S128x256 .f32) (h : Fin 2) (d : Fin 64) (r : Fin 128) :
    lastQ l acc E G al P (ix2 (hcol h d) r)
      = Ideal.div (k0_pay24 acc al (stackP P) E G (ix2 (hcol h d) r)) (l (ix2 0 (col h r)) * al (ix2 0 (col h r)) + ∑ x, P (ix2 x (col h r))) := by
  unfold lastQ
  generalize k0_pay24 acc al (stackP P) E G = w
  match h with
  | 0 => pointwise [hcol, col]
  | 1 => pointwise [hcol, col]

theorem pay32_eq (M : IVec S128x256 1) (al : FVec Ideal S1x256 .f32) :
    k0_pay32 l acc (k0_pay27 C D) al (k0_pay30 M m A B C D) k0_pay31 E G
      = truncf .bf16 (transpose S128x128 [1, 0] (lastQ l acc E G al (lastP m A B C D M)) transposes_S128x128_p1_0_S128x128) bitsLt_bf16_f32 := rfl

theorem last_apply (M : IVec S128x256 1) (al : FVec Ideal S1x256 .f32) (h : Fin 2) (d : Fin 64) (r : Fin 128) :
    k0_pay6 (k0_pay32 l acc (k0_pay27 C D) al (k0_pay30 M m A B C D) k0_pay31 E G) (ix3 0 r (hcol h d))
      = lastQ l acc E G al (lastP m A B C D M) (ix2 (hcol h d) r) := by
  rw [pay32_eq]
  generalize lastQ l acc E G al (lastP m A B C D M) = w
  pointwise [k0_pay6]

end

end Cert.KernelIdeal.Hand

end
-- ==== Proof.KStep.lean ====
/- One block of keys in the kernel's attention, for one block of queries: the running maximum, the running sums and, on the
   diagonal block, the output, in terms of the sums the problem asks for. -/
module

public import proofs.«01_k».proof.Proof.KTile

@[expose] public section

set_option maxRecDepth 16384

noncomputable section

namespace Cert.KernelIdeal.Hand

open Cert.KernelIdeal.Gen Idealize.ShloMosaic Cert.Spec

/-- One head of a grid point's block. -/
def bhead (x : Vec Ideal S1x4096x128 .bf16) (h : Fin 2) : Head := fun s d => x (ix3 0 s (hcol h d))

theorem hm_eq (x : Vec Ideal S1x4096x128 .bf16) (g : Fin 32) (h : Fin 2) : hm x g h = amax (bhead x h) g := by
  refine eq_amax _ _ _ fun z => ?_
  rw [hm, headMax_le]
  have e : ∀ r : Fin 128, (⟨g.val * 128 + r.val, by omega⟩ : Fin 4096) = row g r := fun r => Fin.ext (by show g.val * 128 + r.val = 128 * g.val + r.val; omega)
  constructor
  · intro H r d
    have := H (hcol h d) (by show (64 * h.val + d.val) / 64 = (64 * h.val) / 64; omega) r
    rwa [e r] at this
  · intro H l' hl r
    have hl' : l' = hcol h ⟨l'.val % 64, by omega⟩ := Fin.ext (by
      change l'.val / 64 = (64 * h.val) / 64 at hl
      show l'.val = 64 * h.val + l'.val % 64; omega)
    rw [hl', e r]
    exact H r _

theorem codesOf_at (x : Vec Ideal S1x4096x128 .bf16) (h : Fin 2) (s : Fin 4096) (d : Fin 64) :
    codesOf x (ix3 0 s (hcol h d)) = code (bhead x h) s d := by
  have e1 : (⟨(hcol h d).val / 64, by have := (hcol h d).isLt; omega⟩ : Fin 2) = h :=
    Fin.ext (by show (64 * h.val + d.val) / 64 = h.val; omega)
  show Quant.code (x (ix3 0 s (hcol h d))) (hm x (blk s) ⟨(hcol h d).val / 64, _⟩) = _
  rw [e1, hm_eq]
  rfl

theorem wideOf_at (x : Vec Ideal S1x4096x128 .bf16) (i : Fin 32) (h : Fin 2) (d : Fin 64) (r : Fin 128) :
    wideOf x (ix3 i (hcol h d) (col h r)) = code (bhead x h) (row i r) d := by
  rw [wide_at, if_pos (by show (64 * h.val + d.val) / 64 = (128 * h.val + r.val) / 128; omega), ← codesOf_at]
  have e : (⟨128 * i.val + (col h r).val % 128, by omega⟩ : Fin 4096) = row i r :=
    Fin.ext (by show 128 * i.val + (128 * h.val + r.val) % 128 = 128 * i.val + r.val; omega)
  rw [e]

theorem wideOf_off (x : Vec Ideal S1x4096x128 .bf16) (i : Fin 32) (a : Fin 128) (b : Fin 256) (h : a.val / 64 ≠ b.val / 128) :
    wideOf x (ix3 i a b) = 0 := by
  rw [wide_at, if_neg h]

theorem spreadOf_at (x : Vec Ideal S1x4096x128 .bf16) (g : Fin 32) (h : Fin 2) (r : Fin 128) :
    spreadOf x (ix2 g (col h r)) = scl (bhead x h) g := by
  have e1 : (⟨(col h r).val / 128, by have := (col h r).isLt; omega⟩ : Fin 2) = h :=
    Fin.ext (by show (128 * h.val + r.val) / 128 = h.val; omega)
  show Quant.scl (hm x g ⟨(col h r).val / 128, _⟩) = _
  rw [e1, hm_eq]
  rfl

theorem scaleV_at (x : Vec Ideal S1x4096x128 .bf16) (g : Fin 32) (h : Fin 2) (d : Fin 64) :
    scaleV x (ix2 g (hcol h d)) = scl (bhead x h) g := by
  rw [scaleV_apply, headMax_eq x g (hcol h d) h (by show (64 * h.val + d.val) / 64 = h.val; omega), hm_eq]
  rfl

/-- What is loaded for query block `i` and key block `j`. -/
structure Tile (x0 x1 x2 : Vec Ideal S1x4096x128 .bf16) (i j : Fin 32) (A : Vec Ideal S1x128x128 .fp8e4m3)
    (B E : Vec Ideal S1x128x256 .fp8e4m3) (C D : Vec Ideal S1x256 .f32) (G : Vec Ideal S1x128 .f32) : Prop where
  a : ∀ k c, A (ix3 0 k c) = codesOf x1 (ix3 0 (row j k) c)
  b : ∀ c l, B (ix3 0 c l) = wideOf x0 (ix3 i c l)
  c : ∀ l, C (ix2 0 l) = spreadOf x0 (ix2 i l)
  d : ∀ l, D (ix2 0 l) = spreadOf x1 (ix2 j l)
  e : ∀ c l, E (ix3 0 c l) = wideOf x2 (ix3 j c l)
  g : ∀ l, G (ix2 0 l) = scaleV x2 (ix2 j l)

section
variable {x0 x1 x2 : Vec Ideal S1x4096x128 .bf16} {i j : Fin 32} {A : Vec Ideal S1x128x128 .fp8e4m3}
  {B E : Vec Ideal S1x128x256 .fp8e4m3} {C D : Vec Ideal S1x256 .f32} {G : Vec Ideal S1x128 .f32}
  (T : Tile x0 x1 x2 i j A B E C D G)
include T

theorem Tile.score (h : Fin 2) (k r : Fin 128) :
    k0_pay7 A B (ix2 k (col h r)) = (score (bhead x0 h) (bhead x1 h) (row i r) (row j k) : EReal) := by
  rw [pay7_apply, half_sum 64 128 rfl (by decide) h]
  · rw [← score_coe]
    refine Finset.sum_congr rfl fun d _ => ?_
    have e : ∀ p, (⟨64 * h.val + d.val, p⟩ : Fin 128) = hcol h d := fun _ => rfl
    rw [T.a, T.b, e, wideOf_at, codesOf_at, mul_comm]
  · intro x hx
    rw [T.b, wideOf_off x0 i x (col h r) (by
      show x.val / 64 ≠ (128 * h.val + r.val) / 128
      omega), mul_zero]

theorem Tile.unit (h : Fin 2) (r : Fin 128) :
    k0_pay8 C D (ix2 0 (col h r)) = unit (bhead x0 h) (bhead x1 h) i j := by
  rw [pay8_apply, T.c, T.d, spreadOf_at, spreadOf_at, Spec.unit]

/-- The sum of the values of one column, over the keys of the block. -/
theorem Tile.values (P : FVec Ideal S256x128 .fp8e4m3) (h : Fin 2) (d : Fin 64) (r : Fin 128) :
    ∑ x, E (ix3 0 (hcol h d) x) * P (ix2 x r)
      = ∑ k, Quant.code (bhead x2 h (row j k) d) (amax (bhead x2 h) j) * P (ix2 (col h k) r) := by
  rw [half_sum 128 256 rfl (by decide) h]
  · refine Finset.sum_congr rfl fun k _ => ?_
    have e : ∀ p, (⟨128 * h.val + k.val, p⟩ : Fin 256) = col h k := fun _ => rfl
    rw [e, T.e, wideOf_at, code, blk_row]
  · intro x hx
    rw [T.e, wideOf_off x2 j (hcol h d) x (by
      show (64 * h.val + d.val) / 64 ≠ x.val / 128
      omega), zero_mul]

end

/-- What the running values hold after the first `n` blocks of keys: the sums over those keys. -/
def Inv (x0 x1 x2 : Vec Ideal S1x4096x128 .bf16) (i : Fin 32) (n : ℕ) (m l : FVec Ideal S1x256 .f32) (acc : FVec Ideal S128x128 .f32) : Prop :=
  ∀ (h : Fin 2) (r : Fin 128),
    Softmax.St (mult (bhead x0 h) i) (m (ix2 0 (col h r))) (l (ix2 0 (col h r))) (part (wgt (bhead x0 h) (bhead x1 h) (row i r)) n) ∧
    ∀ d : Fin 64, Softmax.St (mult (bhead x0 h) i) (m (ix2 0 (col h r))) (acc (ix2 (hcol h d) r))
      (part (fun t => wgt (bhead x0 h) (bhead x1 h) (row i r) t * deq (bhead x2 h) t d) n)

theorem Inv.m_real {x0 x1 x2 : Vec Ideal S1x4096x128 .bf16} {i : Fin 32} {n : ℕ} {m l : FVec Ideal S1x256 .f32} {acc : FVec Ideal S128x128 .f32}
    (H : Inv x0 x1 x2 i n m l acc) (h : Fin 2) (r : Fin 128) :
    m (ix2 0 (col h r)) = ⊥ ∨ ∃ M : ℝ, m (ix2 0 (col h r)) = M ∧ (mult (bhead x0 h) i = 1 → M = 0) := by
  rcases (H h r).1 with ⟨h, -⟩ | ⟨M, h, h1, -⟩
  · exact .inl h
  · exact .inr ⟨M, h, h1⟩

theorem inv_init (x0 x1 x2 : Vec Ideal S1x4096x128 .bf16) (i : Fin 32) : Inv x0 x1 x2 i 0 k0_pay21 k0_pay22 k0_pay23 := by
  have h1 : ∀ j, k0_pay21 (F := Ideal) (ix2 0 j) = ⊥ := fun j => by rw [← c_bot]; pointwise [k0_pay21]
  have h2 : ∀ j, k0_pay22 (F := Ideal) (ix2 0 j) = 0 := fun j => by pointwise [k0_pay22]
  have h3 : ∀ k j, k0_pay23 (F := Ideal) (ix2 k j) = 0 := fun k j => by pointwise [k0_pay23]
  intro h r
  exact ⟨.inl ⟨h1 _, h2 _, part_zero _⟩, fun d => .inl ⟨h1 _, h3 _ _, part_zero _⟩⟩

section
variable {x0 x1 x2 : Vec Ideal S1x4096x128 .bf16} {i j : Fin 32} {A : Vec Ideal S1x128x128 .fp8e4m3}
  {B E : Vec Ideal S1x128x256 .fp8e4m3} {C D : Vec Ideal S1x256 .f32} {G : Vec Ideal S1x128 .f32}
  {m l : FVec Ideal S1x256 .f32} {acc : FVec Ideal S128x128 .f32}

/-- The sums after one more block, from what the block computes: `s` its scores, `p` its weights, `M` the new maximum. -/
theorem column (T : Tile x0 x1 x2 i j A B E C D G) (H : Inv x0 x1 x2 i j.val m l acc)
    (h : Fin 2) (r : Fin 128) (s : Fin 128 → EReal)
    (hs : ∀ k, Softmax.Ut (mult (bhead x0 h) i) (unit (bhead x0 h) (bhead x1 h) i j) (s k) (wgt (bhead x0 h) (bhead x1 h) (row i r) (row j k))) (h₀ : s 0 ≠ ⊥) :
    ∃ M : ℝ, max (m (ix2 0 (col h r))) (Finset.fold max ⊥ s Finset.univ * k0_pay8 C D (ix2 0 (col h r))) = M ∧ (mult (bhead x0 h) i = 1 → M = 0) ∧
      ∀ p : Fin 128 → EReal,
        (∀ k, p k = Ideal.exp2 ((s k - Ideal.div ((M : EReal) - ((8 * Real.log 2 : ℝ) : EReal)) (k0_pay8 C D (ix2 0 (col h r))))
          * (k0_pay8 C D (ix2 0 (col h r)) * (((Real.log 2)⁻¹ : ℝ) : EReal)))) →
        l (ix2 0 (col h r)) * Ideal.exp (m (ix2 0 (col h r)) - (M : EReal)) + ∑ k, p k
            = ((mult (bhead x0 h) i * Real.exp (-M) * part (wgt (bhead x0 h) (bhead x1 h) (row i r)) (j.val + 1) : ℝ) : EReal) ∧
        ∀ (P : FVec Ideal S256x128 .fp8e4m3) (al : FVec Ideal S1x256 .f32),
          (∀ k, P (ix2 (col h k) r) = min (Ideal.ofBits .f32 0x43E00000#32) (max 0 (p k))) →
          al (ix2 0 (col h r)) = Ideal.exp (m (ix2 0 (col h r)) - (M : EReal)) →
          ∀ d : Fin 64, k0_pay24 acc al P E G (ix2 (hcol h d) r)
            = ((mult (bhead x0 h) i * Real.exp (-M) * part (fun t => wgt (bhead x0 h) (bhead x1 h) (row i r) t * deq (bhead x2 h) t d) (j.val + 1) : ℝ) : EReal) := by
  rw [T.unit h r]
  obtain ⟨M, hM, h1, hw⟩ := Softmax.block _ _ s _ hs 0 h₀ _ (H.m_real h r)
  refine ⟨M, hM, h1, fun p hp => ?_⟩
  have hp' : ∀ k, p k = ((mult (bhead x0 h) i * Real.exp (-M) * wgt (bhead x0 h) (bhead x1 h) (row i r) (row j k) : ℝ) : EReal) := fun k => by
    rw [hp, (hw k).1]
  refine ⟨?_, fun P al hP hal d => ?_⟩
  · rw [Finset.sum_congr rfl fun k _ => hp' k, Softmax.step_sum _ _ _ _ (H h r).1, part_succ]
  · rw [pay24_apply, T.values, hal, T.g, scaleV_at, part_succ]
    have hP' : ∀ k, P (ix2 (col h k) r) = ((mult (bhead x0 h) i * Real.exp (-M) * wgt (bhead x0 h) (bhead x1 h) (row i r) (row j k) : ℝ) : EReal) := fun k => by
      rw [hP, hp', (hw k).2]
    rw [Finset.sum_congr rfl fun k _ => by rw [hP' k], scl,
      Softmax.step_acc _ _ _ _ ((H h r).2 d) M _ _ _ (amax_nonneg _ _)]
    simp only [deq, blk_row]

/-- A block before the diagonal: every key counts. -/
theorem wt_before (hx1 : ∀ h, Fin' (bhead x1 h)) (hij : j.val < i.val) (T : Tile x0 x1 x2 i j A B E C D G) (h : Fin 2) (r k : Fin 128) :
    Softmax.Ut (mult (bhead x0 h) i) (unit (bhead x0 h) (bhead x1 h) i j) (k0_pay7 A B (ix2 k (col h r))) (wgt (bhead x0 h) (bhead x1 h) (row i r) (row j k)) := by
  have w := score_wt (bhead x0 h) (bhead x1 h) (hx1 h) (row i r) (row j k)
  rw [T.score, wgt, if_pos (show row j k ≤ row i r from by show 128 * j.val + k.val ≤ 128 * i.val + r.val; omega)]
  simp only [blk_row] at w ⊢
  exact w

/-- The diagonal block: the keys up to the query count. -/
theorem wt_diag (hx1 : ∀ h, Fin' (bhead x1 h)) (T : Tile x0 x1 x2 i i A B E C D G) (h : Fin 2) (r k : Fin 128) :
    Softmax.Ut (mult (bhead x0 h) i) (unit (bhead x0 h) (bhead x1 h) i i) (k0_pay26 k0_pay5 A B (ix2 k (col h r))) (wgt (bhead x0 h) (bhead x1 h) (row i r) (row i k)) := by
  rw [pay26_apply, wgt, blk_row, blk_row]
  have e : row i k ≤ row i r ↔ k ≤ r := by
    show 128 * i.val + k.val ≤ 128 * i.val + r.val ↔ k.val ≤ r.val
    omega
  simp only [e]
  split_ifs with hk
  · have w := score_wt (bhead x0 h) (bhead x1 h) (hx1 h) (row i r) (row i k)
    rw [T.score]
    simpa only [blk_row] using w
  · simpa only [blk_row] using mask_wt (bhead x0 h) (bhead x1 h) (hx1 h) (row i r) (row i k)

theorem inv_step (hx1 : ∀ h, Fin' (bhead x1 h)) (hij : j.val < i.val) (T : Tile x0 x1 x2 i j A B E C D G)
    (H : Inv x0 x1 x2 i j.val m l acc) :
    Inv x0 x1 x2 i (j.val + 1) (k0_pay9 m A B C D) (k0_pay12 m l A B C D)
      (k0_pay24 acc (k0_pay10 m A B C D) (k0_pay13 m A B C D) E G) := by
  intro h r
  obtain ⟨M, hM, h1, hcol⟩ := column T H h r (fun k => k0_pay7 A B (ix2 k (col h r))) (wt_before hx1 hij T h r) (by
    simp only [T.score]; exact EReal.coe_ne_bot _)
  have e9 : k0_pay9 m A B C D (ix2 0 (col h r)) = M := (pay9_apply _ _ _ _ _ _).trans hM
  obtain ⟨hl, hacc⟩ := hcol (fun k => k0_pay11 m A B C D (ix2 k (col h r))) fun k => by rw [pay11_apply, e9]
  refine ⟨.inr ⟨M, e9, h1, ?_⟩, fun d => .inr ⟨M, e9, h1, ?_⟩⟩
  · rw [pay12_apply, pay10_apply, e9]; exact hl
  · exact hacc _ _ (fun k => pay13_apply _ _ _ _ _ _ _ _) (by rw [pay10_apply, e9]) d

theorem last_value (hx1 : ∀ h, Fin' (bhead x1 h)) (T : Tile x0 x1 x2 i i A B E C D G)
    (H : Inv x0 x1 x2 i i.val m l acc) (h : Fin 2) (d : Fin 64) (r : Fin 128) :
    k0_pay6 (k0_pay32 l acc (k0_pay27 C D) (k0_pay29 k0_pay5 m A B C D) (k0_pay30 k0_pay5 m A B C D) k0_pay31 E G) (ix3 0 r (hcol h d))
      = (attn (bhead x0 h) (bhead x1 h) (bhead x2 h) (row i r) d : EReal) := by
  rw [last_apply, lastQ_apply]
  obtain ⟨M, hM, h1, hcol⟩ := column T H h r (fun k => k0_pay26 k0_pay5 A B (ix2 k (col h r))) (wt_diag hx1 T h r) (by
    simp only [pay26_apply, T.score, if_pos (Fin.zero_le r)]; exact EReal.coe_ne_bot _)
  have e28 : k0_pay28 k0_pay5 m A B C D (ix2 0 (col h r)) = M := (pay28_apply _ _ _ _ _ _ _).trans hM
  have e29 : k0_pay29 k0_pay5 m A B C D (ix2 0 (col h r)) = Ideal.exp (m (ix2 0 (col h r)) - (M : EReal)) := by rw [pay29_apply, e28]
  obtain ⟨hl, hacc⟩ := hcol (fun k => lastP m A B C D k0_pay5 (ix2 k (col h r))) fun k => by rw [lastP_apply, e28]
  have hz : ∀ t : Fin 4096, 128 * (i.val + 1) ≤ t.val → wgt (bhead x0 h) (bhead x1 h) (row i r) t = 0 := fun t ht =>
    if_neg (by show ¬ t.val ≤ 128 * i.val + r.val; omega)
  rw [hacc (stackP (lastP m A B C D k0_pay5)) _ (fun k => stackP_apply _ _ _ _) e29 d, e29, hl,
    part_all _ _ hz, part_all _ _ (fun t ht => by rw [hz t ht, zero_mul]), Softmax.quot _ (mult_pos _ _) _ _ _ (wgt_sum_pos _ _ _)]
  rfl

end

end Cert.KernelIdeal.Hand

end
-- ==== Proof.KAttn.lean ====
/- The kernel's loop over the key blocks before the diagonal and the block on the diagonal: the rows a grid point writes are the
   attention output of its two heads. -/
module

public import proofs.«01_k».proof.Proof.KStep
public import Idealize.ShloMosaic.Lib.Pipeline.ValueKit.Tiles

@[expose] public section

set_option maxRecDepth 16384

noncomputable section

namespace Cert.KernelIdeal.Hand

open Cert.KernelIdeal.Gen Idealize.ShloMosaic Idealize.ShloMosaic.TcCoe Idealize.ShloMosaic.Tactic Cert.Spec

/-- The query block of a trip of the outer loop. -/
def qi (k : Fin k0_t1_loop.trips) : Fin 32 := ⟨k.val, Nat.lt_of_lt_of_le k.isLt k0_t1_abs.2.1⟩

theorem t2_trips : ∀ k : Fin k0_t1_loop.trips, (k0_t2_loop k).trips = k.val := by decide +kernel

theorem t3_trips : ∀ k : Fin k0_t1_loop.trips, (k0_t3_loop k).trips = 0 := by decide +kernel

/-- The key block of a trip of the inner loop. -/
def kj (k : Fin k0_t1_loop.trips) (j : Fin (k0_t2_loop k).trips) : Fin 32 := ⟨j.val, (Nat.lt_of_lt_of_eq j.isLt (t2_trips k)).trans (qi k).isLt⟩

theorem kj_val (k : Fin k0_t1_loop.trips) (j : Fin (k0_t2_loop k).trips) : (kj k j).val = j.val := rfl

theorem kj_lt (k : Fin k0_t1_loop.trips) (j : Fin (k0_t2_loop k).trips) : (kj k j).val < (qi k).val := by
  have h : j.val < (k0_t2_loop k).trips := j.isLt
  exact (kj_val k j).trans_lt (Nat.lt_of_lt_of_eq h (t2_trips k))

/-- The attention output of the grid point's two heads. -/
def attnOf (x0 x1 x2 : Vec Ideal S1x4096x128 .bf16) : Vec Ideal S1x4096x128 .bf16 := fun i =>
  have h2 : (i 2).val < 128 := (i 2).isLt
  ((attn (bhead x0 ⟨(i 2).val / 64, by omega⟩) (bhead x1 ⟨(i 2).val / 64, by omega⟩) (bhead x2 ⟨(i 2).val / 64, by omega⟩) (i 1)
    ⟨(i 2).val % 64, by omega⟩ : ℝ) : EReal)

theorem attnOf_at {x0 x1 x2 : Vec Ideal S1x4096x128 .bf16} (s : Fin 4096) (h : Fin 2) (d : Fin 64) :
    attnOf x0 x1 x2 (ix3 0 s (hcol h d)) = (attn (bhead x0 h) (bhead x1 h) (bhead x2 h) s d : EReal) := by
  have e1 : (⟨(hcol h d).val / 64, by have := (hcol h d).isLt; omega⟩ : Fin 2) = h :=
    Fin.ext (by show (64 * h.val + d.val) / 64 = h.val; omega)
  have e2 : (⟨(hcol h d).val % 64, by omega⟩ : Fin 64) = d :=
    Fin.ext (by show (64 * h.val + d.val) % 64 = d.val; omega)
  show ((attn (bhead x0 ⟨(hcol h d).val / 64, _⟩) (bhead x1 ⟨(hcol h d).val / 64, _⟩) (bhead x2 ⟨(hcol h d).val / 64, _⟩) s ⟨(hcol h d).val % 64, _⟩ : ℝ) : EReal) = _
  rw [e1, e2]

section
variable (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
  (X_arg8 : BufTy.Contents (Elt Ideal) arg8.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty)
variable {x0 x1 x2 : Vec Ideal S1x4096x128 .bf16}

/-- One trip of the inner loop. -/
theorem trip2_eq (w : IVec S128x256 1) (z o : BitVec 32) (k : Fin k0_t1_loop.trips) (iv : BitVec 32) (j : Fin (k0_t2_loop k).trips)
    (a : FVec Ideal S1x256 .f32 × FVec Ideal S1x256 .f32 × FVec Ideal S128x128 .f32) :
    tripR_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 w z o k iv X_arg8 X_arg12 X_arg13 X_arg14 X_arg15 X_arg16 j a
      = (let A := View.readAt (Elt Ideal) arg8.view (Rect.unit (s := S1x4096x128) (k0_off1 k j) S1x128x128.size (k0_off1_inb k j)).toLoadRect X_arg8
         let B := View.readAt (Elt Ideal) arg12.view (Rect.unit (s := S32x128x256) (k0_off2 k) S1x128x256.size (k0_off2_inb k)).toLoadRect X_arg12
         let C := View.readAt (Elt Ideal) arg14.view (Rect.unit (s := S32x256) (k0_off3 k) S1x256.size (k0_off3_inb k)).toLoadRect X_arg14
         let D := View.readAt (Elt Ideal) arg15.view (Rect.unit (s := S32x256) (k0_off4 k j) S1x256.size (k0_off4_inb k j)).toLoadRect X_arg15
         let E := View.readAt (Elt Ideal) arg13.view (Rect.unit (s := S32x128x256) (k0_off5 k j) S1x128x256.size (k0_off5_inb k j)).toLoadRect X_arg13
         let G := View.readAt (Elt Ideal) arg16.view (Rect.unit (s := S32x128) (k0_off6 k j) S1x128.size (k0_off6_inb k j)).toLoadRect X_arg16
         (k0_pay9 a.1 A B C D, k0_pay12 a.1 a.2.1 A B C D, k0_pay24 a.2.2 (k0_pay10 a.1 A B C D) (k0_pay13 a.1 A B C D) E G)) := by
  unfold tripR_k0_t2 trip_k0_t2
  rfl

/-- The buffers hold the codes, the transposed codes and the scales of the grid point's blocks. -/
structure Bufs (x0 x1 x2 : Vec Ideal S1x4096x128 .bf16) : Prop where
  h8 : arg8.view.read (Elt Ideal) X_arg8 = codesOf x1
  h12 : arg12.view.read (Elt Ideal) X_arg12 = wideOf x0
  h13 : arg13.view.read (Elt Ideal) X_arg13 = wideOf x2
  h14 : arg14.view.read (Elt Ideal) X_arg14 = spreadOf x0
  h15 : arg15.view.read (Elt Ideal) X_arg15 = spreadOf x1
  h16 : arg16.view.read (Elt Ideal) X_arg16 = scaleV x2

variable (hB : Bufs arg8 arg12 arg13 arg14 arg15 arg16 X_arg8 X_arg12 X_arg13 X_arg14 X_arg15 X_arg16 x0 x1 x2)

/-- The sums the inner loop leaves for the block on the diagonal. -/
def sums (k : Fin k0_t1_loop.trips) : FVec Ideal S1x256 .f32 × FVec Ideal S1x256 .f32 × FVec Ideal S128x128 .f32 :=
  st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 0#32 1#32 k (trip_k0_t1.sl.arg17 k) X_arg8 X_arg12 X_arg13 X_arg14 X_arg15 X_arg16 (k0_pay21, k0_pay22, k0_pay23) (Scf.trips (k0_t2_loop k).lb (k0_t2_loop k).ub (k0_t2_loop k).st)

/-- The loop that has no trips changes nothing. -/
theorem rest (k : Fin k0_t1_loop.trips) (a : FVec Ideal S1x256 .f32 × FVec Ideal S1x256 .f32 × FVec Ideal S128x128 .f32) :
    st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 0#32 1#32 k (trip_k0_t1.sl.arg17 k) (trip_k0_t1.sl.v2634 k) X_arg8 X_arg12 X_arg13 X_arg14 X_arg15 X_arg16 a (Scf.trips (k0_t3_loop k).lb (k0_t3_loop k).ub (k0_t3_loop k).st) = a := by
  have h : Scf.trips (k0_t3_loop k).lb (k0_t3_loop k).ub (k0_t3_loop k).st = 0 := t3_trips k
  rw [h, st_k0_t3_zero]

/-- The rows a trip of the outer loop writes. -/
def rowsOf (k : Fin k0_t1_loop.trips) : FVec Ideal S1x128x128 .bf16 :=
  k0_pay6 (k0_pay32 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).2.1 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).2.2 (k0_pay27 (View.readAt (Elt Ideal) arg14.view (Rect.unit (s := S32x256) (k0_off15 k) S1x256.size (k0_off15_inb k)).toLoadRect X_arg14) (View.readAt (Elt Ideal) arg15.view (Rect.unit (s := S32x256) (k0_off15 k) S1x256.size (k0_off15_inb k)).toLoadRect X_arg15))
    (k0_pay29 k0_pay5 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).1 (View.readAt (Elt Ideal) arg8.view (Rect.unit (s := S1x4096x128) (k0_off13 k) S1x128x128.size (k0_off13_inb k)).toLoadRect X_arg8) (View.readAt (Elt Ideal) arg12.view (Rect.unit (s := S32x128x256) (k0_off14 k) S1x128x256.size (k0_off14_inb k)).toLoadRect X_arg12) (View.readAt (Elt Ideal) arg14.view (Rect.unit (s := S32x256) (k0_off15 k) S1x256.size (k0_off15_inb k)).toLoadRect X_arg14) (View.readAt (Elt Ideal) arg15.view (Rect.unit (s := S32x256) (k0_off15 k) S1x256.size (k0_off15_inb k)).toLoadRect X_arg15)) (k0_pay30 k0_pay5 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).1 (View.readAt (Elt Ideal) arg8.view (Rect.unit (s := S1x4096x128) (k0_off13 k) S1x128x128.size (k0_off13_inb k)).toLoadRect X_arg8) (View.readAt (Elt Ideal) arg12.view (Rect.unit (s := S32x128x256) (k0_off14 k) S1x128x256.size (k0_off14_inb k)).toLoadRect X_arg12) (View.readAt (Elt Ideal) arg14.view (Rect.unit (s := S32x256) (k0_off15 k) S1x256.size (k0_off15_inb k)).toLoadRect X_arg14) (View.readAt (Elt Ideal) arg15.view (Rect.unit (s := S32x256) (k0_off15 k) S1x256.size (k0_off15_inb k)).toLoadRect X_arg15)) k0_pay31 (View.readAt (Elt Ideal) arg13.view (Rect.unit (s := S32x128x256) (k0_off14 k) S1x128x256.size (k0_off14_inb k)).toLoadRect X_arg13) (View.readAt (Elt Ideal) arg16.view (Rect.unit (s := S32x128) (k0_off16 k) S1x128.size (k0_off16_inb k)).toLoadRect X_arg16))

theorem tripL_eq (k : Fin k0_t1_loop.trips) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k = [⟨Rect.unit (s := S1x4096x128) (k0_off13 k) S1x128x128.size (k0_off13_inb k), rowsOf 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k⟩] := by
  have e0 : ∀ a : FVec Ideal S1x256 .f32 × FVec Ideal S1x256 .f32 × FVec Ideal S128x128 .f32, (a.1, a.2.1, a.2.2) = a := fun _ => rfl
  have e1 : trip_k0_t1.sl.r 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k = (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).2.1 := by
    unfold trip_k0_t1.sl.r; rw [rest, e0]; rfl
  have e2 : trip_k0_t1.sl.r_1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k = (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).2.2 := by
    unfold trip_k0_t1.sl.r_1; rw [rest, e0]; rfl
  have e4 : trip_k0_t1.sl.r_3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k = k0_pay29 k0_pay5 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).1 (View.readAt (Elt Ideal) arg8.view (Rect.unit (s := S1x4096x128) (k0_off13 k) S1x128x128.size (k0_off13_inb k)).toLoadRect X_arg8) (View.readAt (Elt Ideal) arg12.view (Rect.unit (s := S32x128x256) (k0_off14 k) S1x128x256.size (k0_off14_inb k)).toLoadRect X_arg12) (View.readAt (Elt Ideal) arg14.view (Rect.unit (s := S32x256) (k0_off15 k) S1x256.size (k0_off15_inb k)).toLoadRect X_arg14) (View.readAt (Elt Ideal) arg15.view (Rect.unit (s := S32x256) (k0_off15 k) S1x256.size (k0_off15_inb k)).toLoadRect X_arg15) := by
    unfold trip_k0_t1.sl.r_3; rw [rest, e0]; unfold sums; rfl
  have e5 : trip_k0_t1.sl.r_4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k = k0_pay30 k0_pay5 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k).1 (View.readAt (Elt Ideal) arg8.view (Rect.unit (s := S1x4096x128) (k0_off13 k) S1x128x128.size (k0_off13_inb k)).toLoadRect X_arg8) (View.readAt (Elt Ideal) arg12.view (Rect.unit (s := S32x128x256) (k0_off14 k) S1x128x256.size (k0_off14_inb k)).toLoadRect X_arg12) (View.readAt (Elt Ideal) arg14.view (Rect.unit (s := S32x256) (k0_off15 k) S1x256.size (k0_off15_inb k)).toLoadRect X_arg14) (View.readAt (Elt Ideal) arg15.view (Rect.unit (s := S32x256) (k0_off15 k) S1x256.size (k0_off15_inb k)).toLoadRect X_arg15) := by
    unfold trip_k0_t1.sl.r_4; rw [rest, e0]; unfold sums; rfl
  have e6 : trip_k0_t1.sl.r_5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k = k0_pay32 (trip_k0_t1.sl.r 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k) (trip_k0_t1.sl.r_1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k) (k0_pay27 (View.readAt (Elt Ideal) arg14.view (Rect.unit (s := S32x256) (k0_off15 k) S1x256.size (k0_off15_inb k)).toLoadRect X_arg14) (View.readAt (Elt Ideal) arg15.view (Rect.unit (s := S32x256) (k0_off15 k) S1x256.size (k0_off15_inb k)).toLoadRect X_arg15)) (trip_k0_t1.sl.r_3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k) (trip_k0_t1.sl.r_4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k) k0_pay31 (View.readAt (Elt Ideal) arg13.view (Rect.unit (s := S32x128x256) (k0_off14 k) S1x128x256.size (k0_off14_inb k)).toLoadRect X_arg13) (View.readAt (Elt Ideal) arg16.view (Rect.unit (s := S32x128) (k0_off16 k) S1x128.size (k0_off16_inb k)).toLoadRect X_arg16) := rfl
  have e7 : rowsOf 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k = k0_pay6 (trip_k0_t1.sl.r_5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k) := by
    rw [e6, e1, e2, e4, e5, rowsOf]
  rw [e7]
  unfold tripL_k0_t1 trip_k0_t1
  rfl

include hB

theorem tile2 (k : Fin k0_t1_loop.trips) (j : Fin (k0_t2_loop k).trips) :
    Tile x0 x1 x2 (qi k) (kj k j)
      (View.readAt (Elt Ideal) arg8.view (Rect.unit (s := S1x4096x128) (k0_off1 k j) S1x128x128.size (k0_off1_inb k j)).toLoadRect X_arg8)
      (View.readAt (Elt Ideal) arg12.view (Rect.unit (s := S32x128x256) (k0_off2 k) S1x128x256.size (k0_off2_inb k)).toLoadRect X_arg12)
      (View.readAt (Elt Ideal) arg13.view (Rect.unit (s := S32x128x256) (k0_off5 k j) S1x128x256.size (k0_off5_inb k j)).toLoadRect X_arg13)
      (View.readAt (Elt Ideal) arg14.view (Rect.unit (s := S32x256) (k0_off3 k) S1x256.size (k0_off3_inb k)).toLoadRect X_arg14)
      (View.readAt (Elt Ideal) arg15.view (Rect.unit (s := S32x256) (k0_off4 k j) S1x256.size (k0_off4_inb k j)).toLoadRect X_arg15)
      (View.readAt (Elt Ideal) arg16.view (Rect.unit (s := S32x128) (k0_off6 k j) S1x128.size (k0_off6_inb k j)).toLoadRect X_arg16) where
  a u v := by
    rw [View.readAt_eq_ld, hB.h8]
    refine View.ld_unit_apply_of _ _ _ _ _ _ fun a => ?_
    refine Eq.trans ?_ (congrArg (· + (ix3 (0 : Fin 1) u v a).val) (congrFun (k0_off1_eq k j) a).symm)
    match a with
    | 0 => rfl
    | 1 => exact congrArg (fun n => 128 * n + u.val) (kj_val k j)
    | 2 => exact (Nat.zero_add _).symm
  b u v := by
    rw [View.readAt_eq_ld, hB.h12]
    refine View.ld_unit_apply_of _ _ _ _ _ _ fun a => ?_
    refine Eq.trans ?_ (congrArg (· + (ix3 (0 : Fin 1) u v a).val) (congrFun (k0_off2_eq k) a).symm)
    match a with
    | 0 => rfl
    | 1 => exact (Nat.zero_add _).symm
    | 2 => exact (Nat.zero_add _).symm
  c u := by
    rw [View.readAt_eq_ld, hB.h14]
    refine View.ld_unit_apply_of _ _ _ _ _ _ fun a => ?_
    refine Eq.trans ?_ (congrArg (· + (ix2 (0 : Fin 1) u a).val) (congrFun (k0_off3_eq k) a).symm)
    match a with
    | 0 => rfl
    | 1 => exact (Nat.zero_add _).symm
  d u := by
    rw [View.readAt_eq_ld, hB.h15]
    refine View.ld_unit_apply_of _ _ _ _ _ _ fun a => ?_
    refine Eq.trans ?_ (congrArg (· + (ix2 (0 : Fin 1) u a).val) (congrFun (k0_off4_eq k j) a).symm)
    match a with
    | 0 => exact (kj_val k j).trans (Nat.add_zero _).symm
    | 1 => exact (Nat.zero_add _).symm
  e u v := by
    rw [View.readAt_eq_ld, hB.h13]
    refine View.ld_unit_apply_of _ _ _ _ _ _ fun a => ?_
    refine Eq.trans ?_ (congrArg (· + (ix3 (0 : Fin 1) u v a).val) (congrFun (k0_off5_eq k j) a).symm)
    match a with
    | 0 => exact (kj_val k j).trans (Nat.add_zero _).symm
    | 1 => exact (Nat.zero_add _).symm
    | 2 => exact (Nat.zero_add _).symm
  g u := by
    rw [View.readAt_eq_ld, hB.h16]
    refine View.ld_unit_apply_of _ _ _ _ _ _ fun a => ?_
    refine Eq.trans ?_ (congrArg (· + (ix2 (0 : Fin 1) u a).val) (congrFun (k0_off6_eq k j) a).symm)
    match a with
    | 0 => exact (kj_val k j).trans (Nat.add_zero _).symm
    | 1 => exact (Nat.zero_add _).symm

theorem tileD (k : Fin k0_t1_loop.trips) :
    Tile x0 x1 x2 (qi k) (qi k)
      (View.readAt (Elt Ideal) arg8.view (Rect.unit (s := S1x4096x128) (k0_off13 k) S1x128x128.size (k0_off13_inb k)).toLoadRect X_arg8)
      (View.readAt (Elt Ideal) arg12.view (Rect.unit (s := S32x128x256) (k0_off14 k) S1x128x256.size (k0_off14_inb k)).toLoadRect X_arg12)
      (View.readAt (Elt Ideal) arg13.view (Rect.unit (s := S32x128x256) (k0_off14 k) S1x128x256.size (k0_off14_inb k)).toLoadRect X_arg13)
      (View.readAt (Elt Ideal) arg14.view (Rect.unit (s := S32x256) (k0_off15 k) S1x256.size (k0_off15_inb k)).toLoadRect X_arg14)
      (View.readAt (Elt Ideal) arg15.view (Rect.unit (s := S32x256) (k0_off15 k) S1x256.size (k0_off15_inb k)).toLoadRect X_arg15)
      (View.readAt (Elt Ideal) arg16.view (Rect.unit (s := S32x128) (k0_off16 k) S1x128.size (k0_off16_inb k)).toLoadRect X_arg16) where
  a u v := by
    rw [View.readAt_eq_ld, hB.h8]
    refine View.ld_unit_apply_of _ _ _ _ _ _ fun a => ?_
    refine Eq.trans ?_ (congrArg (· + (ix3 (0 : Fin 1) u v a).val) (congrFun (k0_off13_eq k) a).symm)
    match a with
    | 0 => rfl
    | 1 => rfl
    | 2 => exact (Nat.zero_add _).symm
  b u v := by
    rw [View.readAt_eq_ld, hB.h12]
    refine View.ld_unit_apply_of _ _ _ _ _ _ fun a => ?_
    refine Eq.trans ?_ (congrArg (· + (ix3 (0 : Fin 1) u v a).val) (congrFun (k0_off14_eq k) a).symm)
    match a with
    | 0 => rfl
    | 1 => exact (Nat.zero_add _).symm
    | 2 => exact (Nat.zero_add _).symm
  c u := by
    rw [View.readAt_eq_ld, hB.h14]
    refine View.ld_unit_apply_of _ _ _ _ _ _ fun a => ?_
    refine Eq.trans ?_ (congrArg (· + (ix2 (0 : Fin 1) u a).val) (congrFun (k0_off15_eq k) a).symm)
    match a with
    | 0 => rfl
    | 1 => exact (Nat.zero_add _).symm
  d u := by
    rw [View.readAt_eq_ld, hB.h15]
    refine View.ld_unit_apply_of _ _ _ _ _ _ fun a => ?_
    refine Eq.trans ?_ (congrArg (· + (ix2 (0 : Fin 1) u a).val) (congrFun (k0_off15_eq k) a).symm)
    match a with
    | 0 => rfl
    | 1 => exact (Nat.zero_add _).symm
  e u v := by
    rw [View.readAt_eq_ld, hB.h13]
    refine View.ld_unit_apply_of _ _ _ _ _ _ fun a => ?_
    refine Eq.trans ?_ (congrArg (· + (ix3 (0 : Fin 1) u v a).val) (congrFun (k0_off14_eq k) a).symm)
    match a with
    | 0 => rfl
    | 1 => exact (Nat.zero_add _).symm
    | 2 => exact (Nat.zero_add _).symm
  g u := by
    rw [View.readAt_eq_ld, hB.h16]
    refine View.ld_unit_apply_of _ _ _ _ _ _ fun a => ?_
    refine Eq.trans ?_ (congrArg (· + (ix2 (0 : Fin 1) u a).val) (congrFun (k0_off16_eq k) a).symm)
    match a with
    | 0 => rfl
    | 1 => exact (Nat.zero_add _).symm

variable (hx1 : ∀ h, Fin' (bhead x1 h))
include hx1

/-- The inner loop: after `n` key blocks, the sums over their keys. -/
theorem inner (k : Fin k0_t1_loop.trips) (w : IVec S128x256 1) (z o iv : BitVec 32) (n : ℕ) (hn : n ≤ (k0_t2_loop k).trips) :
    Inv x0 x1 x2 (qi k) n
      (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 w z o k iv X_arg8 X_arg12 X_arg13 X_arg14 X_arg15 X_arg16 (k0_pay21, k0_pay22, k0_pay23) n).1
      (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 w z o k iv X_arg8 X_arg12 X_arg13 X_arg14 X_arg15 X_arg16 (k0_pay21, k0_pay22, k0_pay23) n).2.1
      (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 w z o k iv X_arg8 X_arg12 X_arg13 X_arg14 X_arg15 X_arg16 (k0_pay21, k0_pay22, k0_pay23) n).2.2 := by
  induction n with
  | zero =>
    rw [st_k0_t2_zero]
    exact inv_init x0 x1 x2 (qi k)
  | succ n ih =>
    have hlt : n < (k0_t2_loop k).trips := hn
    have e := st_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 w z o k iv X_arg8 X_arg12 X_arg13 X_arg14 X_arg15 X_arg16 (k0_pay21, k0_pay22, k0_pay23) ⟨n, hlt⟩
    have H := ih hlt.le
    rw [trip2_eq] at e
    have hij : (kj k ⟨n, hlt⟩).val < (qi k).val := kj_lt k _
    have T := tile2 (hB := hB) (k := k) (j := ⟨n, hlt⟩)
    have S := inv_step hx1 hij T (by rw [kj_val]; exact H)
    rw [kj_val] at S
    have e1 := congrArg (fun a => a.1) e
    have e2 := congrArg (fun a => a.2.1) e
    have e3 := congrArg (fun a => a.2.2) e
    dsimp only at e1 e2 e3
    rw [e1, e2, e3]
    exact S

/-- One trip of the outer loop writes 128 rows of the output. -/
theorem outer (k : Fin k0_t1_loop.trips) (r : Fin 128) (h : Fin 2) (d : Fin 64) :
    rowsOf 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k (ix3 0 r (hcol h d)) = attnOf x0 x1 x2 (ix3 0 (row (qi k) r) (hcol h d)) := by
  rw [attnOf_at]
  have hn : Scf.trips (k0_t2_loop k).lb (k0_t2_loop k).ub (k0_t2_loop k).st = k.val := t2_trips k
  have H := inner 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 hB hx1 k k0_pay5 0#32 1#32 (trip_k0_t1.sl.arg17 k) (Scf.trips (k0_t2_loop k).lb (k0_t2_loop k).ub (k0_t2_loop k).st) le_rfl
  exact last_value hx1 (tileD (hB := hB) (k := k)) (hn ▸ H) h d r

theorem outer_at (k : Fin k0_t1_loop.trips) (y : S1x128x128.Idx) :
    rowsOf 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 k y = attnOf x0 x1 x2 ((Rect.unit (s := S1x4096x128) (k0_off13 k) S1x128x128.size (k0_off13_inb k)).emb y) := by
  obtain ⟨z, r, l, rfl⟩ : ∃ z r l, y = ix3 z r l := ⟨y 0, y 1, y 2, (eq_ix3 y)⟩
  obtain rfl : z = 0 := Subsingleton.elim _ _
  obtain ⟨h, d, rfl⟩ : ∃ h d, l = hcol h d := ⟨⟨l.val / 64, by have := l.isLt; omega⟩, ⟨l.val % 64, by omega⟩,
    Fin.ext (by show l.val = 64 * (l.val / 64) + l.val % 64; omega)⟩
  rw [outer (hB := hB) (hx1 := hx1)]
  congr 1
  funext a
  refine Fin.ext ?_
  have o := congrFun (k0_off13_eq k) a
  refine Eq.trans ?_ (congrArg (· + 1 * (ix3 0 r (hcol h d) a).val) o.symm)
  match a with
  | 0 => rfl
  | 1 => show 128 * k.val + r.val = 128 * k.val + 1 * r.val; omega
  | 2 => show (hcol h d).val = 0 + 1 * (hcol h d).val; omega

theorem pieces (n : ℕ) (hn : n ≤ k0_t1_loop.trips) :
    ∀ p ∈ pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 n, ∀ y, p.2 y = attnOf x0 x1 x2 (p.1.emb y) := by
  induction n with
  | zero => intro p hp; exact absurd hp (by simp [pb_k0_t1])
  | succ n ih =>
    have hlt : n < k0_t1_loop.trips := hn
    have e := pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 (⟨n, hlt⟩ : Fin k0_t1_loop.trips)
    intro p hp
    rw [e, tripL_eq] at hp
    rcases List.mem_append.1 hp with hp | hp
    · obtain rfl := List.mem_singleton.1 hp
      exact outer_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg8 X_arg12 X_arg13 X_arg14 X_arg15 X_arg16 hB hx1 ⟨n, hlt⟩
    · exact ih hlt.le p hp

end

end Cert.KernelIdeal.Hand

end
-- ==== Proof.KOuts.lean ====
/- What one grid point leaves in each of its output blocks: the attention output of its two heads, and for each of the three
   operands its codes and its scales. -/
module

public import proofs.«01_k».proof.Proof.KAttn

@[expose] public section

set_option maxRecDepth 16384

noncomputable section

namespace Cert.KernelIdeal.Hand

open Cert.KernelIdeal.Gen Idealize.ShloMosaic Idealize.ShloMosaic.TcCoe Idealize.ShloMosaic.Tactic Cert.Spec

theorem off2 : (![0, 0] : Fin 2 → ℕ) = fun _ => 0 := by funext a; match a with | 0 => rfl | 1 => rfl
theorem off4 : (![0, 0, 0, 0] : Fin 4 → ℕ) = fun _ => 0 := by
  funext a; match a with | 0 => rfl | 1 => rfl | 2 => rfl | 3 => rfl

/-- A buffer written whole once reads back what was written. -/
theorem read_whole {κ : Kind} {sp : Space} {S : Shape} {e : EltTy} (v : View sig κ sp S e) (f : v.ty.Contents (Elt Ideal))
    {off : Fin S.rank → ℕ} (h : off = fun _ => 0) (inb : ∀ a, off a + S.size a ≤ S.size a) (w : S.Idx → Elt Ideal e) :
    v.read (Elt Ideal) (v.writes (Elt Ideal) f [(⟨Rect.unit off S.size inb, w⟩ : View.Piece (Elt Ideal) S e)]) = w := by
  rw [View.read_writes_eq_canon v f _ fun y => ⟨_, List.mem_singleton_self _, View.mem_set_unit_zero h inb y⟩, View.canon_unit_zero h inb w]

section
variable (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .fp8e4m3) (harg6 : arg6.IsWhole) (arg7 : Memref sig .tc .vmem S1x1x32x128 .f32) (harg7 : arg7.IsWhole) (arg8 : Memref sig .tc .vmem S1x4096x128 .fp8e4m3) (harg8 : arg8.IsWhole) (arg9 : Memref sig .tc .vmem S1x1x32x128 .f32) (harg9 : arg9.IsWhole) (arg10 : Memref sig .tc .vmem S1x4096x128 .fp8e4m3) (harg10 : arg10.IsWhole) (arg11 : Memref sig .tc .vmem S1x1x32x128 .f32) (harg11 : arg11.IsWhole) (arg12 : Memref sig .tc .vmem S32x128x256 .fp8e4m3) (harg12 : arg12.IsWhole) (arg13 : Memref sig .tc .vmem S32x128x256 .fp8e4m3) (harg13 : arg13.IsWhole) (arg14 : Memref sig .tc .vmem S32x256 .f32) (harg14 : arg14.IsWhole) (arg15 : Memref sig .tc .vmem S32x256 .f32) (harg15 : arg15.IsWhole) (arg16 : Memref sig .tc .vmem S32x128 .f32) (harg16 : arg16.IsWhole)
  (x0 x1 x2 : Vec Ideal S1x4096x128 .bf16)

theorem out4 : out0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = codesOf x0 := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2)]
  show View.canon (kernelRun0_A.sl.H4_32 c arg2 harg2 x0) = _
  rw [q_codes_eq, q_inv_eq, codes_canon]

theorem out6 : out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = codesOf x1 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2)]
  show View.canon (kernelRun0_A.sl.H6_32 c arg3 harg3 x1) = _
  rw [k_codes_eq, k_inv_eq, codes_canon]

theorem out8 : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = codesOf x2 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2)]
  show View.canon (kernelRun0_A.sl.H8_32 c arg4 harg4 x2) = _
  rw [v_codes_eq, v_inv_eq, codes_canon]

theorem pay50_eq (a : FVec Ideal S32x128 .f32) : k0_pay50 a = shapeCast S1x1x32x128 a shapeCasts_S32x128_S1x1x32x128 := rfl
theorem pay51_eq (a : FVec Ideal S32x128 .f32) : k0_pay51 a = shapeCast S1x1x32x128 a shapeCasts_S32x128_S1x1x32x128 := rfl

theorem out5 : out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = scalesOf x0 := by
  have e : out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = k0_pay50 (kernelRun0_A.sl.r c arg2 harg2 x0) := read_whole _ _ off4 _ _
  rw [e, q_scale_eq, pay50_eq, scales_cast]

theorem out7 : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = scalesOf x1 := by
  have e : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = k0_pay51 (kernelRun0_A.sl.r_3 c arg3 harg3 x1) := read_whole _ _ off4 _ _
  rw [e, k_scale_eq, pay51_eq, scales_cast]

theorem out9 : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = scalesOf x2 := by
  have e : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = k0_pay52 (kernelRun0_A.sl.v198 c arg4 harg4 x2) (kernelRun0_A.sl.v200 c arg4 harg4 x2) := read_whole _ _ off4 _ _
  have e2 : k0_pay52 (kernelRun0_A.sl.v198 c arg4 harg4 x2) (kernelRun0_A.sl.v200 c arg4 harg4 x2)
      = shapeCast S1x1x32x128 (kernelRun0_A.sl.r_7 c arg4 harg4 x2) shapeCasts_S32x128_S1x1x32x128 := rfl
  rw [e, e2, v_scale_eq, scales_cast]

theorem spread_q : kernelRun0_A.sl.v236 c arg2 harg2 x0 = spreadOf x0 := by
  have e : kernelRun0_A.sl.v236 c arg2 harg2 x0 = shapeCast S32x256 (k0_pay53 (kernelRun0_A.sl.r c arg2 harg2 x0)) shapeCasts_S32x256_S32x256 := rfl
  rw [e, q_scale_eq, spread_scale, shapeCast_self]

theorem spread_k : kernelRun0_A.sl.v248 c arg3 harg3 x1 = spreadOf x1 := by
  have e : kernelRun0_A.sl.v248 c arg3 harg3 x1 = shapeCast S32x256 (k0_pay53 (kernelRun0_A.sl.r_3 c arg3 harg3 x1)) shapeCasts_S32x256_S32x256 := rfl
  rw [e, k_scale_eq, spread_scale, shapeCast_self]

theorem scale_v : kernelRun0_A.sl.v251 c arg4 harg4 x2 = scaleV x2 := by
  have e : kernelRun0_A.sl.v251 c arg4 harg4 x2 = shapeCast S32x128 (kernelRun0_A.sl.r_7 c arg4 harg4 x2) shapeCasts_S32x128_S32x128 := rfl
  rw [e, v_scale_eq, shapeCast_self]

include i harg5 harg6 harg7 harg8 harg9 harg10 harg11 harg12 harg13 harg14 harg15 harg16

/-- The buffers the attention loops read. -/
theorem bufs : Bufs arg8 arg12 arg13 arg14 arg15 arg16
    (arg8.view.writes (Elt Ideal) arg8.view.junk (kernelRun0_A.sl.H6_32 c arg3 harg3 x1))
    (arg12.view.writes (Elt Ideal) arg12.view.junk (kernelRun0_A.sl.HS0_128 c arg2 harg2 x0))
    (arg13.view.writes (Elt Ideal) arg13.view.junk (kernelRun0_A.sl.HS1_128 c arg4 harg4 x2))
    (arg14.view.writes (Elt Ideal) arg14.view.junk (kernelRun0_A.sl.HS2_1 c arg2 harg2 x0))
    (arg15.view.writes (Elt Ideal) arg15.view.junk (kernelRun0_A.sl.HS3_1 c arg3 harg3 x1))
    (arg16.view.writes (Elt Ideal) arg16.view.junk (kernelRun0_A.sl.HS4_1 c arg4 harg4 x2)) x0 x1 x2 where
  h8 := by
    have h : ∀ y, ∃ p ∈ kernelRun0_A.sl.H6_32 c arg3 harg3 x1, y ∈ p.1.set := cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2
    rw [View.read_writes_eq_canon _ _ _ h, k_codes_eq, k_inv_eq, codes_canon]
  h12 := by
    rw [qw_eq, View.read_writes_eq_canon _ _ _ (wide_cover arg2 harg2 x0 _), q_inv_eq, wide_canon]
  h13 := by
    rw [vt_eq, View.read_writes_eq_canon _ _ _ (wide_cover arg4 harg4 x2 _), v_inv_eq, wide_canon]
  h14 := (read_whole _ _ off2 _ _).trans (spread_q c arg2 harg2 x0)
  h15 := (read_whole _ _ off2 _ _).trans (spread_k c arg3 harg3 x1)
  h16 := (read_whole _ _ off2 _ _).trans (scale_v c arg4 harg4 x2)

theorem out3 (hx1 : ∀ h, Fin' (bhead x1 h)) : out0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 = attnOf x0 x1 x2 := by
  unfold out0_A_3
  rw [View.read_writes_eq_canon _ _ _ (cover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2)]
  funext y
  refine View.canon_apply_of_pieces (attnOf x0 x1 x2) _ ?_ y (cover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 y)
  exact pieces Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16
    _ _ _ _ _ _ (bufs c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2) hx1 (Scf.trips k0_t1_loop.lb k0_t1_loop.ub k0_t1_loop.st) le_rfl

end

end Cert.KernelIdeal.Hand

end
-- ==== Proof.Glob.lean ====
/- The seven results as functions of the three arguments, head by head. -/
module

public import proofs.«01_k».proof.Proof.Spec
public import Idealize.ShloMosaic.Lib.Pointwise

@[expose] public section

noncomputable section

namespace Cert.Glob

open Idealize.ShloMosaic Cert.Spec

/-- The shapes of an argument and of a scale array. -/
abbrev SX : Shape := ⟨3, ![8, 4096, 2048]⟩
abbrev SS : Shape := ⟨3, ![8, 32, 32]⟩

/-- The column of element `d` of head `h`. -/
def gcol (h : Fin 32) (d : Fin 64) : Fin 2048 := ⟨64 * h.val + d.val, by omega⟩

/-- Head `h` of batch `b`. -/
def head (X : SX.Idx → EReal) (b : Fin 8) (h : Fin 32) : Head := fun s d => X (ix3 b s (gcol h d))

/-- The head a column is in, and its place in the head. -/
def hd (l : Fin 2048) : Fin 32 := ⟨l.val / 64, by omega⟩
def pl (l : Fin 2048) : Fin 64 := ⟨l.val % 64, by omega⟩

theorem hd_gcol (h : Fin 32) (d : Fin 64) : hd (gcol h d) = h := Fin.ext (by show (64 * h.val + d.val) / 64 = h.val; omega)
theorem pl_gcol (h : Fin 32) (d : Fin 64) : pl (gcol h d) = d := Fin.ext (by show (64 * h.val + d.val) % 64 = d.val; omega)
theorem gcol_hd (l : Fin 2048) : gcol (hd l) (pl l) = l := Fin.ext (by show 64 * (l.val / 64) + l.val % 64 = l.val; omega)

/-- The attention output. -/
def Y (X K V : SX.Idx → EReal) : SX.Idx → EReal := fun i =>
  ((attn (head X (i 0) (hd (i 2))) (head K (i 0) (hd (i 2))) (head V (i 0) (hd (i 2))) (i 1) (pl (i 2)) : ℝ) : EReal)

/-- The codes of an argument. -/
def C (X : SX.Idx → EReal) : SX.Idx → EReal := fun i => code (head X (i 0) (hd (i 2))) (i 1) (pl (i 2))

/-- The scales of an argument. -/
def S (X : SX.Idx → EReal) : SS.Idx → EReal := fun i => scl (head X (i 0) (i 2)) (i 1)

/-- Every head of an argument is real. -/
def Real (X : SX.Idx → EReal) : Prop := ∀ b h, Fin' (head X b h)

end Cert.Glob

end
-- ==== Proof.KArrays.lean ====
/- The kernel's result arrays: every grid point writes its block of each, so each ends at a function of the arguments. -/
module

public import proofs.«01_k».proof.Proof.KOuts
public import proofs.«01_k».proof.Proof.Glob

@[expose] public section

set_option maxRecDepth 16384

noncomputable section

namespace Cert.KernelIdeal.Hand

open Cert.KernelIdeal.Gen Idealize.ShloMosaic Idealize.ShloMosaic.TcCoe Idealize.ShloMosaic.Tactic Cert.Spec Cert.Glob
open Idealize.SL Idealize.SL.Sem

variable (m : (ℓ : Loc nD τ sig) → Buf (Elt Ideal) ℓ)

theorem cfgN : cfg0.N = 128 := by decide +kernel

/-- The batch and the pair of heads of a grid point. -/
def bt (t : Fin cfg0.N) : Fin 8 := ⟨t.val / 16, by have := t.isLt; have := cfgN; omega⟩
def pr (t : Fin cfg0.N) : Fin 16 := ⟨t.val % 16, by omega⟩
/-- The head `h` of a pair. -/
def phead (p : Fin 16) (h : Fin 2) : Fin 32 := ⟨2 * p.val + h.val, by omega⟩
/-- The grid point of a batch and a pair. -/
def pt (b : Fin 8) (p : Fin 16) : Fin cfg0.N := ⟨16 * b.val + p.val, by have := cfgN; omega⟩
theorem bt_pt (b : Fin 8) (p : Fin 16) : bt (pt b p) = b := Fin.ext (by show (16 * b.val + p.val) / 16 = b.val; omega)
theorem pr_pt (b : Fin 8) (p : Fin 16) : pr (pt b p) = p := Fin.ext (by show (16 * b.val + p.val) % 16 = p.val; omega)

theorem idx3 : ∀ t : Fin cfg0.N, cc0_transform_0 (grid0.coords t) 0 = (bt t).val ∧ cc0_transform_0 (grid0.coords t) 1 = 0
    ∧ cc0_transform_0 (grid0.coords t) 2 = (pr t).val := by decide +kernel

theorem idx4 : ∀ t : Fin cfg0.N, cc0_transform_5 (grid0.coords t) 0 = (bt t).val ∧ cc0_transform_5 (grid0.coords t) 1 = (pr t).val
    ∧ cc0_transform_5 (grid0.coords t) 2 = 0 ∧ cc0_transform_5 (grid0.coords t) 3 = 0 := by decide +kernel

/-- Where an element of a point's block lies in the array. -/
def loc3 (t : Fin cfg0.N) (j : S1x4096x128.Idx) : S8x4096x2048.Idx :=
  ix3 (bt t) (j 1) ⟨128 * (pr t).val + (j 2).val, by have := (pr t).isLt; have : (j 2).val < 128 := (j 2).isLt; omega⟩

def loc4 (t : Fin cfg0.N) (j : S1x1x32x128.Idx) : S8x16x32x128.Idx := ix4 (bt t) (pr t) (j 2) (j 3)

theorem emb3 (t : Fin cfg0.N) (j : S1x4096x128.Idx) (i : S8x4096x2048.Idx)
    (hi : ∀ a, (i a).val = cc0_transform_0 (grid0.coords t) a * S1x4096x128.size a + 1 * (j a).val) : i = loc3 t j := by
  obtain ⟨e0, e1, e2⟩ := idx3 t
  have h0 : (j 0).val < 1 := (j 0).isLt
  funext a
  refine Fin.ext ((hi a).trans ?_)
  match a with
  | 0 => show cc0_transform_0 (grid0.coords t) 0 * 1 + 1 * (j 0).val = (bt t).val; omega
  | 1 => show cc0_transform_0 (grid0.coords t) 1 * 4096 + 1 * (j 1).val = (j 1).val; omega
  | 2 => show cc0_transform_0 (grid0.coords t) 2 * 128 + 1 * (j 2).val = 128 * (pr t).val + (j 2).val; omega

theorem emb4 (t : Fin cfg0.N) (j : S1x1x32x128.Idx) (i : S8x16x32x128.Idx)
    (hi : ∀ a, (i a).val = cc0_transform_5 (grid0.coords t) a * S1x1x32x128.size a + 1 * (j a).val) : i = loc4 t j := by
  obtain ⟨e0, e1, e2, e3⟩ := idx4 t
  have h0 : (j 0).val < 1 := (j 0).isLt
  have h1 : (j 1).val < 1 := (j 1).isLt
  funext a
  refine Fin.ext ((hi a).trans ?_)
  match a with
  | 0 => show cc0_transform_5 (grid0.coords t) 0 * 1 + 1 * (j 0).val = (bt t).val; omega
  | 1 => show cc0_transform_5 (grid0.coords t) 1 * 1 + 1 * (j 1).val = (pr t).val; omega
  | 2 => show cc0_transform_5 (grid0.coords t) 2 * 32 + 1 * (j 2).val = (j 2).val; omega
  | 3 => show cc0_transform_5 (grid0.coords t) 3 * 128 + 1 * (j 3).val = (j 3).val; omega

/-- Every element lies in the block of some point. -/
theorem loc3_onto (i : S8x4096x2048.Idx) : ∃ t j, loc3 t j = i := by
  obtain ⟨b, s, l, rfl⟩ : ∃ (b : Fin 8) (s : Fin 4096) (l : Fin 2048), i = ix3 b s l := ⟨i 0, i 1, i 2, eq_ix3 i⟩
  refine ⟨pt b ⟨l.val / 128, by omega⟩, ix3 0 s ⟨l.val % 128, by omega⟩, ?_⟩
  have e : (⟨128 * (⟨l.val / 128, by omega⟩ : Fin 16).val + l.val % 128, by show 128 * (l.val / 128) + l.val % 128 < 2048; omega⟩ : Fin 2048) = l :=
    Fin.ext (by show 128 * (l.val / 128) + l.val % 128 = l.val; omega)
  have key : ∀ (t : Fin cfg0.N) (p : Fin 16) (r : Fin 128) (h : 128 * p.val + r.val < 2048), bt t = b → pr t = p →
      loc3 t (ix3 0 s r) = ix3 b s ⟨128 * p.val + r.val, h⟩ := by
    intro t p r h hb hp
    subst hb hp
    rfl
  refine (key _ ⟨l.val / 128, by omega⟩ _ (by show 128 * (l.val / 128) + l.val % 128 < 2048; omega) (bt_pt _ _) (pr_pt _ _)).trans ?_
  exact congrArg (ix3 b s) e

theorem loc4_onto (i : S8x16x32x128.Idx) : ∃ t j, loc4 t j = i := by
  obtain ⟨b, p, g, l, rfl⟩ : ∃ (b : Fin 8) (p : Fin 16) (g : Fin 32) (l : Fin 128), i = ix4 b p g l := ⟨i 0, i 1, i 2, i 3, eq_ix4 i⟩
  have key : ∀ t : Fin cfg0.N, bt t = b → pr t = p → loc4 t (ix4 0 0 g l) = ix4 b p g l := by
    intro t hb hp
    subst hb hp
    rfl
  exact ⟨pt b p, ix4 0 0 g l, key _ (bt_pt b p) (pr_pt b p)⟩

theorem emb_0 (t : Fin cfg0.N) (j : S1x4096x128.Idx) : ((cfg0.win 0).blk t).view.emb j = loc3 t j :=
  emb3 t j _ fun a => match a with | 0 => rfl | 1 => rfl | 2 => rfl
theorem emb_1 (t : Fin cfg0.N) (j : S1x4096x128.Idx) : ((cfg0.win 1).blk t).view.emb j = loc3 t j :=
  emb3 t j _ fun a => match a with | 0 => rfl | 1 => rfl | 2 => rfl
theorem emb_2 (t : Fin cfg0.N) (j : S1x4096x128.Idx) : ((cfg0.win 2).blk t).view.emb j = loc3 t j :=
  emb3 t j _ fun a => match a with | 0 => rfl | 1 => rfl | 2 => rfl
theorem emb_3 (t : Fin cfg0.N) (j : S1x4096x128.Idx) : ((cfg0.win 3).blk t).view.emb j = loc3 t j :=
  emb3 t j _ fun a => match a with | 0 => rfl | 1 => rfl | 2 => rfl
theorem emb_4 (t : Fin cfg0.N) (j : S1x4096x128.Idx) : ((cfg0.win 4).blk t).view.emb j = loc3 t j :=
  emb3 t j _ fun a => match a with | 0 => rfl | 1 => rfl | 2 => rfl
theorem emb_6 (t : Fin cfg0.N) (j : S1x4096x128.Idx) : ((cfg0.win 6).blk t).view.emb j = loc3 t j :=
  emb3 t j _ fun a => match a with | 0 => rfl | 1 => rfl | 2 => rfl
theorem emb_8 (t : Fin cfg0.N) (j : S1x4096x128.Idx) : ((cfg0.win 8).blk t).view.emb j = loc3 t j :=
  emb3 t j _ fun a => match a with | 0 => rfl | 1 => rfl | 2 => rfl
theorem emb_5 (t : Fin cfg0.N) (j : S1x1x32x128.Idx) : ((cfg0.win 5).blk t).view.emb j = loc4 t j :=
  emb4 t j _ fun a => match a with | 0 => rfl | 1 => rfl | 2 => rfl | 3 => rfl
theorem emb_7 (t : Fin cfg0.N) (j : S1x1x32x128.Idx) : ((cfg0.win 7).blk t).view.emb j = loc4 t j :=
  emb4 t j _ fun a => match a with | 0 => rfl | 1 => rfl | 2 => rfl | 3 => rfl
theorem emb_9 (t : Fin cfg0.N) (j : S1x1x32x128.Idx) : ((cfg0.win 9).blk t).view.emb j = loc4 t j :=
  emb4 t j _ fun a => match a with | 0 => rfl | 1 => rfl | 2 => rfl | 3 => rfl

/-- The head `h` of a point's block of an argument is the argument's head. -/
theorem bhead_loc (X : S8x4096x2048.Idx → EReal) (t : Fin cfg0.N) (h : Fin 2) :
    bhead (fun j => X (loc3 t j)) h = head X (bt t) (phead (pr t) h) := by
  funext s d
  refine congrArg X (congrArg (ix3 (bt t) s) (Fin.ext ?_))
  show 128 * (pr t).val + (64 * h.val + d.val) = 64 * (2 * (pr t).val + h.val) + d.val
  omega

theorem iblk_0 (c : Dev nD) (t : Fin cfg0.N) : iblk m c 0 t = fun j => m ((c : Thread nD τ).loc main_arg0) (loc3 t j) := by
  funext j
  show V m c main_arg0 (((cfg0.win 0).blk t).view.emb j) = _
  rw [emb_0, V_main_arg0]
theorem iblk_1 (c : Dev nD) (t : Fin cfg0.N) : iblk m c 1 t = fun j => m ((c : Thread nD τ).loc main_arg1) (loc3 t j) := by
  funext j
  show V m c main_arg1 (((cfg0.win 1).blk t).view.emb j) = _
  rw [emb_1, V_main_arg1]
theorem iblk_2 (c : Dev nD) (t : Fin cfg0.N) : iblk m c 2 t = fun j => m ((c : Thread nD τ).loc main_arg2) (loc3 t j) := by
  funext j
  show V m c main_arg2 (((cfg0.win 2).blk t).view.emb j) = _
  rw [emb_2, V_main_arg2]

/-- The scales as the kernel stores them, one per row of a pair's two heads, each 64 times. -/
def rawS (X : SX.Idx → EReal) : S8x16x32x128.Idx → EReal := fun i =>
  have h3 : (i 3).val < 128 := (i 3).isLt
  scl (head X (i 0) (phead (i 1) ⟨(i 3).val / 64, by omega⟩)) (i 2)

theorem block_C (X : S8x4096x2048.Idx → EReal) (t : Fin cfg0.N) (j : S1x4096x128.Idx) :
    codesOf (fun j => X (loc3 t j)) j = C X (loc3 t j) := by
  obtain ⟨z, s, l, rfl⟩ : ∃ z s l, j = ix3 z s l := ⟨j 0, j 1, j 2, eq_ix3 j⟩
  obtain rfl : z = 0 := Subsingleton.elim _ _
  obtain ⟨h, d, rfl⟩ : ∃ h d, l = hcol h d := ⟨⟨l.val / 64, by omega⟩, ⟨l.val % 64, by omega⟩,
    Fin.ext (by show l.val = 64 * (l.val / 64) + l.val % 64; omega)⟩
  rw [codesOf_at, bhead_loc]
  have e : (⟨128 * (pr t).val + (hcol h d).val, by have := (pr t).isLt; have := (hcol h d).isLt; omega⟩ : Fin 2048) = gcol (phead (pr t) h) d :=
    Fin.ext (by show 128 * (pr t).val + (64 * h.val + d.val) = 64 * (2 * (pr t).val + h.val) + d.val; omega)
  show _ = code (head X (bt t) (hd ⟨128 * (pr t).val + (hcol h d).val, _⟩)) s (pl ⟨128 * (pr t).val + (hcol h d).val, _⟩)
  rw [e, hd_gcol, pl_gcol]

theorem block_Y (X K W : S8x4096x2048.Idx → EReal) (t : Fin cfg0.N) (j : S1x4096x128.Idx) :
    attnOf (fun j => X (loc3 t j)) (fun j => K (loc3 t j)) (fun j => W (loc3 t j)) j = Y X K W (loc3 t j) := by
  obtain ⟨z, s, l, rfl⟩ : ∃ z s l, j = ix3 z s l := ⟨j 0, j 1, j 2, eq_ix3 j⟩
  obtain rfl : z = 0 := Subsingleton.elim _ _
  obtain ⟨h, d, rfl⟩ : ∃ h d, l = hcol h d := ⟨⟨l.val / 64, by omega⟩, ⟨l.val % 64, by omega⟩,
    Fin.ext (by show l.val = 64 * (l.val / 64) + l.val % 64; omega)⟩
  rw [attnOf_at, bhead_loc, bhead_loc, bhead_loc]
  have e : (⟨128 * (pr t).val + (hcol h d).val, by have := (pr t).isLt; have := (hcol h d).isLt; omega⟩ : Fin 2048) = gcol (phead (pr t) h) d :=
    Fin.ext (by show 128 * (pr t).val + (64 * h.val + d.val) = 64 * (2 * (pr t).val + h.val) + d.val; omega)
  show _ = ((attn (head X (bt t) (hd ⟨128 * (pr t).val + (hcol h d).val, _⟩)) (head K (bt t) (hd ⟨128 * (pr t).val + (hcol h d).val, _⟩))
    (head W (bt t) (hd ⟨128 * (pr t).val + (hcol h d).val, _⟩)) s (pl ⟨128 * (pr t).val + (hcol h d).val, _⟩) : ℝ) : EReal)
  rw [e, hd_gcol, pl_gcol]

theorem block_S (X : S8x4096x2048.Idx → EReal) (t : Fin cfg0.N) (j : S1x1x32x128.Idx) :
    scalesOf (fun j => X (loc3 t j)) j = rawS X (loc4 t j) := by
  obtain ⟨y, z, g, l, rfl⟩ : ∃ (y z : Fin 1) (g : Fin 32) (l : Fin 128), j = ix4 y z g l := ⟨j 0, j 1, j 2, j 3, eq_ix4 j⟩
  have key : ∀ h : Fin 2, Quant.scl (hm (fun j => X (loc3 t j)) g h) = scl (head X (bt t) (phead (pr t) h)) g := by
    intro h
    rw [hm_eq, bhead_loc]
    rfl
  exact key ⟨l.val / 64, by omega⟩

/-- The arguments as launched, at one core. -/
abbrev aX (c : Dev nD) : SX.Idx → EReal := m ((c : Thread nD τ).loc main_arg0)
abbrev aK (c : Dev nD) : SX.Idx → EReal := m ((c : Thread nD τ).loc main_arg1)
abbrev aV (c : Dev nD) : SX.Idx → EReal := m ((c : Thread nD τ).loc main_arg2)

theorem final_3 (c : Dev nD) (hK : Real (aK m c)) : (dats m 0 c).arrAt 3 cfg0.N = Y (aX m c) (aK m c) (aV m c) := by
  refine (dats m 0 c).arrAt_eq_of_cover 3 (Y (aX m c) (aK m c) (aV m c)) (fun t _ => ?_) fun i => ?_
  · show (cfg0.win 3).cut (grid0.coords t) ((dats m 0 c).after 3 t) = _
    rw [after0_3]
    unfold outsAt0
    dsimp only
    rw [out3 _ _ _ _ _ _ _ _ _ _ _ _ _ _ _ _ _ _ _ _ _ _ _ _ _ _ _ _ _ _ _ _ _ _ _
      (by intro h; rw [iblk_1, bhead_loc (aK m c)]; exact hK _ _)]
    rw [iblk_0, iblk_1, iblk_2]
    funext j
    show _ = (Y (aX m c) (aK m c) (aV m c)) (((cfg0.win 3).blk t).view.emb j)
    rw [emb_3]
    exact block_Y _ _ _ t j
  · obtain ⟨t, j, rfl⟩ := loc3_onto i
    exact ⟨t, flush0_3 t, emb_3 t j ▸ ((cfg0.win 3).blk t).view.emb_mem_set j⟩

theorem final_4 (c : Dev nD) : (dats m 0 c).arrAt 4 cfg0.N = C (aX m c) := by
  refine (dats m 0 c).arrAt_eq_of_cover 4 (C (aX m c)) (fun t _ => ?_) fun i => ?_
  · show (cfg0.win 4).cut (grid0.coords t) ((dats m 0 c).after 4 t) = _
    rw [after0_4]
    unfold outsAt0
    dsimp only
    rw [out4, iblk_0]
    funext j
    show _ = (C (aX m c)) (((cfg0.win 4).blk t).view.emb j)
    rw [emb_4]
    exact block_C _ t j
  · obtain ⟨t, j, rfl⟩ := loc3_onto i
    exact ⟨t, flush0_4 t, emb_4 t j ▸ ((cfg0.win 4).blk t).view.emb_mem_set j⟩

theorem final_5 (c : Dev nD) : (dats m 0 c).arrAt 5 cfg0.N = rawS (aX m c) := by
  refine (dats m 0 c).arrAt_eq_of_cover 5 (rawS (aX m c)) (fun t _ => ?_) fun i => ?_
  · show (cfg0.win 5).cut (grid0.coords t) ((dats m 0 c).after 5 t) = _
    rw [after0_5]
    unfold outsAt0
    dsimp only
    rw [out5, iblk_0]
    funext j
    show _ = (rawS (aX m c)) (((cfg0.win 5).blk t).view.emb j)
    rw [emb_5]
    exact block_S _ t j
  · obtain ⟨t, j, rfl⟩ := loc4_onto i
    exact ⟨t, flush0_5 t, emb_5 t j ▸ ((cfg0.win 5).blk t).view.emb_mem_set j⟩

theorem final_6 (c : Dev nD) : (dats m 0 c).arrAt 6 cfg0.N = C (aK m c) := by
  refine (dats m 0 c).arrAt_eq_of_cover 6 (C (aK m c)) (fun t _ => ?_) fun i => ?_
  · show (cfg0.win 6).cut (grid0.coords t) ((dats m 0 c).after 6 t) = _
    rw [after0_6]
    unfold outsAt0
    dsimp only
    rw [out6, iblk_1]
    funext j
    show _ = (C (aK m c)) (((cfg0.win 6).blk t).view.emb j)
    rw [emb_6]
    exact block_C _ t j
  · obtain ⟨t, j, rfl⟩ := loc3_onto i
    exact ⟨t, flush0_6 t, emb_6 t j ▸ ((cfg0.win 6).blk t).view.emb_mem_set j⟩

theorem final_7 (c : Dev nD) : (dats m 0 c).arrAt 7 cfg0.N = rawS (aK m c) := by
  refine (dats m 0 c).arrAt_eq_of_cover 7 (rawS (aK m c)) (fun t _ => ?_) fun i => ?_
  · show (cfg0.win 7).cut (grid0.coords t) ((dats m 0 c).after 7 t) = _
    rw [after0_7]
    unfold outsAt0
    dsimp only
    rw [out7, iblk_1]
    funext j
    show _ = (rawS (aK m c)) (((cfg0.win 7).blk t).view.emb j)
    rw [emb_7]
    exact block_S _ t j
  · obtain ⟨t, j, rfl⟩ := loc4_onto i
    exact ⟨t, flush0_7 t, emb_7 t j ▸ ((cfg0.win 7).blk t).view.emb_mem_set j⟩

theorem final_8 (c : Dev nD) : (dats m 0 c).arrAt 8 cfg0.N = C (aV m c) := by
  refine (dats m 0 c).arrAt_eq_of_cover 8 (C (aV m c)) (fun t _ => ?_) fun i => ?_
  · show (cfg0.win 8).cut (grid0.coords t) ((dats m 0 c).after 8 t) = _
    rw [after0_8]
    unfold outsAt0
    dsimp only
    rw [out8, iblk_2]
    funext j
    show _ = (C (aV m c)) (((cfg0.win 8).blk t).view.emb j)
    rw [emb_8]
    exact block_C _ t j
  · obtain ⟨t, j, rfl⟩ := loc3_onto i
    exact ⟨t, flush0_8 t, emb_8 t j ▸ ((cfg0.win 8).blk t).view.emb_mem_set j⟩

theorem final_9 (c : Dev nD) : (dats m 0 c).arrAt 9 cfg0.N = rawS (aV m c) := by
  refine (dats m 0 c).arrAt_eq_of_cover 9 (rawS (aV m c)) (fun t _ => ?_) fun i => ?_
  · show (cfg0.win 9).cut (grid0.coords t) ((dats m 0 c).after 9 t) = _
    rw [after0_9]
    unfold outsAt0
    dsimp only
    rw [out9, iblk_2]
    funext j
    show _ = (rawS (aV m c)) (((cfg0.win 9).blk t).view.emb j)
    rw [emb_9]
    exact block_S _ t j
  · obtain ⟨t, j, rfl⟩ := loc4_onto i
    exact ⟨t, flush0_9 t, emb_9 t j ▸ ((cfg0.win 9).blk t).view.emb_mem_set j⟩

end Cert.KernelIdeal.Hand

end
-- ==== Proof.KRun.lean ====
/- What the kernel's program leaves: the seven results as functions of the arguments. -/
module

public import proofs.«01_k».proof.Proof.KArrays
public import proofs.«01_k».proof.Proof.IdealFrame
public import Idealize.ShloMosaic.Lib.StableHlo.Run
public import Idealize.ShloMosaic.Lib.StableHlo.RunClose
public import Idealize.ShloMosaic.Lib.Pipeline.FrameSuffix

@[expose] public section

set_option maxRecDepth 16384

noncomputable section

namespace Cert.KernelIdeal.Hand

open Cert.KernelIdeal.Gen Idealize.ShloMosaic Idealize.ShloMosaic.TcCoe Idealize.ShloMosaic.Tactic Idealize.ShloMosaic.StableHlo Cert.Spec Cert.Glob
open Idealize.SL Idealize.SL.Sem

variable (m : (ℓ : Loc nD τ sig) → Buf (Elt Ideal) ℓ) (ρ : Dev nD → PrngReg)

/-- Every 64th lane of a scale array, heads last. -/
def heads (w : Vec Ideal S8x16x32x128 .f32) : Vec Ideal S8x32x32 .f32 :=
  shapeCast _ (transpose S8x32x16x2 [0, 2, 1, 3] (Host.slice S8x16x32x2 ![0, 0, 0, 0] ![1, 1, 1, 64] w slicesBy_S8x16x32x128_S8x16x32x2_0s1_0s1_0s1_0s64) transposes_S8x16x32x2_S8x32x16x2_0_2_1_3) shapeCasts_S8x32x16x2_S8x32x32

theorem heads_at' (w : Vec Ideal S8x16x32x128 .f32) (b : Fin 8) (g : Fin 32) (p : Fin 16) (e : Fin 2) (h : Fin 32)
    (hh : h.val = 2 * p.val + e.val) (l : Fin 128) (hl : l.val = 64 * e.val) :
    heads w (ix3 b g h) = w (ix4 b p g l) := by
  unfold heads
  refine (shapeCast_apply _ _ _ (ix4 b g p e : S8x32x16x2.Idx) ?_).trans ?_
  · rw [Shape.rowMajor_val_four, Shape.rowMajor_val_three]
    show ((b.val * 32 + g.val) * 16 + p.val) * 2 + e.val = (b.val * 32 + g.val) * 32 + h.val
    omega
  refine (transpose_apply _ _ _ _ (ix4 b p g e : S8x16x32x2.Idx) ?_).trans ?_
  · intro a
    match a with
    | ⟨0, _⟩ => rfl
    | ⟨1, _⟩ => rfl
    | ⟨2, _⟩ => rfl
    | ⟨3, _⟩ => rfl
  show w _ = w _
  refine congrArg w (funext fun a => Fin.ext ?_)
  match a with
  | ⟨0, _⟩ => show 0 + 1 * b.val = b.val; omega
  | ⟨1, _⟩ => show 0 + 1 * p.val = p.val; omega
  | ⟨2, _⟩ => show 0 + 1 * g.val = g.val; omega
  | ⟨3, _⟩ => show 0 + 64 * e.val = l.val; omega

theorem heads_at (w : Vec Ideal S8x16x32x128 .f32) (b : Fin 8) (g h : Fin 32) :
    heads w (ix3 b g h) = w (ix4 b ⟨h.val / 2, by omega⟩ g ⟨64 * (h.val % 2), by omega⟩) :=
  heads_at' w b g ⟨h.val / 2, by omega⟩ ⟨h.val % 2, by omega⟩ h (by show h.val = 2 * (h.val / 2) + h.val % 2; omega) _ rfl

theorem heads_rawS (X : SX.Idx → EReal) : heads (rawS X) = S X := by
  funext i
  obtain ⟨b, g, h, rfl⟩ : ∃ (b : Fin 8) (g h : Fin 32), i = ix3 b g h := ⟨i 0, i 1, i 2, eq_ix3 i⟩
  rw [heads_at]
  have key : ∀ h' : Fin 32, h' = h → scl (head X b h') g = scl (head X b h) g := by rintro _ rfl; rfl
  exact key _ (Fin.ext (by show 2 * (h.val / 2) + 64 * (h.val % 2) / 64 = h.val; omega))

/-- The contents the host's last lines run from. -/
abbrev exitV (c : Dev nD) : Valuation τ sig (Elt Ideal) :=
  Pipeline.withArrays spec0 c (Gen.V0 m c) fun w => (dats m 0 c).arrAt w cfg0.N

theorem fin_v3 (c : Dev nD) : Pipeline.afterTail₀ cfgs (dats m) 0 (Gen.V0 m) [Gen.hostOps1] c main_v3 = S (aX m c) := by
  have e : Pipeline.afterTail₀ cfgs (dats m) 0 (Gen.V0 m) [Gen.hostOps1] c main_v3 = heads (exitV m c (Proc.devRef .tc main_v0_2)) := by
    show StableHlo.after Gen.hostOps1 (exitV m c) (Proc.devRef .tc main_v3) = _
    simp only [Gen.hostOps1]
    after_results_simp
    rfl
  rw [e]
  exact (congrArg heads ((Pipeline.withArrays_arr spec0 Gen.launch0.win.arr_inj c (Gen.V0 m c) _ 5).trans (final_5 m c))).trans (heads_rawS _)

theorem fin_v6 (c : Dev nD) : Pipeline.afterTail₀ cfgs (dats m) 0 (Gen.V0 m) [Gen.hostOps1] c main_v6 = S (aK m c) := by
  have e : Pipeline.afterTail₀ cfgs (dats m) 0 (Gen.V0 m) [Gen.hostOps1] c main_v6 = heads (exitV m c (Proc.devRef .tc main_v0_4)) := by
    show StableHlo.after Gen.hostOps1 (exitV m c) (Proc.devRef .tc main_v6) = _
    simp only [Gen.hostOps1]
    after_results_simp
    rfl
  rw [e]
  exact (congrArg heads ((Pipeline.withArrays_arr spec0 Gen.launch0.win.arr_inj c (Gen.V0 m c) _ 7).trans (final_7 m c))).trans (heads_rawS _)

theorem fin_v9 (c : Dev nD) : Pipeline.afterTail₀ cfgs (dats m) 0 (Gen.V0 m) [Gen.hostOps1] c main_v9 = S (aV m c) := by
  have e : Pipeline.afterTail₀ cfgs (dats m) 0 (Gen.V0 m) [Gen.hostOps1] c main_v9 = heads (exitV m c (Proc.devRef .tc main_v0_6)) := by
    show StableHlo.after Gen.hostOps1 (exitV m c) (Proc.devRef .tc main_v9) = _
    simp only [Gen.hostOps1]
    after_results_simp
    rfl
  rw [e]
  exact (congrArg heads ((Pipeline.withArrays_arr spec0 Gen.launch0.win.arr_inj c (Gen.V0 m c) _ 9).trans (final_9 m c))).trans (heads_rawS _)

/-- THE KERNEL'S VALUE: every run ends with the seven results at these functions of the arguments. -/
theorem value (hK : ∀ c, Real (aK m c)) :
    θ_run defs (onTc (τ := τ) (main (F := Ideal))) ⟨m, fun _ => 0, ρ⟩ fun r => ∀ c : Dev nD,
      r.2.mem ((c.tc : Thread nD τ).loc main_v0_0) = Y (aX m c) (aK m c) (aV m c)
      ∧ r.2.mem ((c.tc : Thread nD τ).loc main_v0_1) = C (aX m c)
      ∧ r.2.mem ((c.tc : Thread nD τ).loc main_v3) = S (aX m c)
      ∧ r.2.mem ((c.tc : Thread nD τ).loc main_v0_3) = C (aK m c)
      ∧ r.2.mem ((c.tc : Thread nD τ).loc main_v6) = S (aK m c)
      ∧ r.2.mem ((c.tc : Thread nD τ).loc main_v0_5) = C (aV m c)
      ∧ r.2.mem ((c.tc : Thread nD τ).loc main_v9) = S (aV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final_3 m c (hK c)),
      ((h c).1 4).trans (final_4 m c),
      ((h c).2 main_v3 (Pipeline.mem_restRefs_of main_v3 (by decide) (by decide))).trans (fin_v3 m c),
      ((h c).1 6).trans (final_6 m c),
      ((h c).2 main_v6 (Pipeline.mem_restRefs_of main_v6 (by decide) (by decide))).trans (fin_v6 m c),
      ((h c).1 8).trans (final_8 m c),
      ((h c).2 main_v9 (Pipeline.mem_restRefs_of main_v9 (by decide) (by decide))).trans (fin_v9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.KernelIdeal.Hand

end
-- ==== Proof.RHead.lean ====
/- The reference's lines before its quantiser: the three arguments stacked, and the largest absolute value of each head over
   each block of 128 rows. -/
module

public import proofs.«01_k».proof.Proof.Gen.ReferenceIdeal.Run
public import proofs.«01_k».proof.Proof.Glob
public import Idealize.ShloMosaic.Lib.Pointwise

@[expose] public section

set_option maxRecDepth 65536

noncomputable section

namespace Cert.ReferenceIdeal.Hand

open Cert.ReferenceIdeal Cert.ReferenceIdeal.Gen Idealize.ShloMosaic Idealize.ShloMosaic.TcCoe Idealize.ShloMosaic.Tactic Idealize.ShloMosaic.StableHlo Cert.Spec Cert.Glob
open Idealize.SL Idealize.SL.Sem

/-- A maximum over the set of entries that drop to one index is below `z` when all of them, and the first value, are. -/
theorem reduce_max_le {s t u : Shape} {axes : List (Fin s.rank)} (x : s.Idx → EReal) (init : u.Idx → EReal)
    (h : s.ReducesTo axes t) (hu : 0 < u.numel) (j : t.Idx) (z : EReal) :
    Host.reduce (FloatOps.maximumf (F := Ideal) (φ := .f32)) x init h hu j ≤ z ↔
      init (Shape.Idx.first hu) ≤ z ∧ ∀ i, h.drop i = j → x i ≤ z := by
  have e : Host.reduce (FloatOps.maximumf (F := Ideal) (φ := .f32)) x init h hu j = Host.reduce (fun a b : EReal => max a b) x init h hu j := rfl
  rw [e, Host.reduce_eq_fold]
  refine (Finset.fold_max_le (β := EReal) z).trans ?_
  simp only [Finset.mem_filter, Finset.mem_univ, true_and]

/-- The three arguments, one after the other. -/
def stackOf (x k v : FVec Ideal S8x4096x2048 .bf16) : FVec Ideal S3x8x4096x2048 .f32 :=
  extf .f32 (concatenate S3x8x4096x2048 0
    [⟨S1x8x4096x2048, broadcastInDim S1x8x4096x2048 ![1, 2, 3] bcast_S8x4096x2048_S1x8x4096x2048_1_2_3 x⟩,
     ⟨S1x8x4096x2048, broadcastInDim S1x8x4096x2048 ![1, 2, 3] bcast_S8x4096x2048_S1x8x4096x2048_1_2_3 k⟩,
     ⟨S1x8x4096x2048, broadcastInDim S1x8x4096x2048 ![1, 2, 3] bcast_S8x4096x2048_S1x8x4096x2048_1_2_3 v⟩]
    concatenates_S1x8x4096x2048_S1x8x4096x2048_S1x8x4096x2048_S3x8x4096x2048_d0) bitsLt_bf16_f32

/-- The largest absolute values. -/
def bmaxOf (t : FVec Ideal S3x8x4096x2048 .f32) : FVec Ideal S3x8x32x32 .f32 :=
  Host.reduce FloatOps.maximumf (shapeCast S3x8x32x128x32x64 (Host.absf t) shapeCasts_S3x8x4096x2048_S3x8x32x128x32x64)
    (constant S_ .f32 0xFF800000#32) reducesTo_S3x8x32x128x32x64_S3x8x32x32_d3_5 h_S_

/-- Each, at every element of its block. -/
def tmaxOf (w : FVec Ideal S3x8x32x32 .f32) : FVec Ideal S3x8x4096x2048 .f32 :=
  shapeCast S3x8x4096x2048 (broadcastInDim S3x8x32x128x32x64 ![0, 1, 2, 3, 4, 5] bcast_S3x8x32x1x32x1_S3x8x32x128x32x64_0_1_2_3_4_5
    (broadcastInDim S3x8x32x1x32x1 ![0, 1, 2, 4] bcast_S3x8x32x32_S3x8x32x1x32x1_0_1_2_4 w)) shapeCasts_S3x8x32x128x32x64_S3x8x4096x2048

theorem stack_0 (x k v : FVec Ideal S8x4096x2048 .bf16) (b : Fin 8) (s : Fin 4096) (l : Fin 2048) :
    stackOf x k v (ix4 (0 : Fin 3) b s l) = x (ix3 b s l) := by
  pointwise [stackOf]
theorem stack_1 (x k v : FVec Ideal S8x4096x2048 .bf16) (b : Fin 8) (s : Fin 4096) (l : Fin 2048) :
    stackOf x k v (ix4 (1 : Fin 3) b s l) = k (ix3 b s l) := by
  pointwise [stackOf]
theorem stack_2 (x k v : FVec Ideal S8x4096x2048 .bf16) (b : Fin 8) (s : Fin 4096) (l : Fin 2048) :
    stackOf x k v (ix4 (2 : Fin 3) b s l) = v (ix3 b s l) := by
  pointwise [stackOf]

theorem tmax_at (w : FVec Ideal S3x8x32x32 .f32) (n : Fin 3) (b : Fin 8) (s : Fin 4096) (l : Fin 2048) :
    tmaxOf w (ix4 n b s l) = w (ix4 n b (blk s) (hd l)) := by
  unfold tmaxOf
  refine (shapeCast_apply _ _ _ (ix6 n b (blk s) (⟨s.val % 128, by omega⟩ : Fin 128) (hd l) (pl l) : S3x8x32x128x32x64.Idx) ?_).trans ?_
  · rw [Shape.rowMajor_val_four, Shape.rowMajor_val_six]
    show ((((n.val * 8 + b.val) * 32 + s.val / 128) * 128 + s.val % 128) * 32 + l.val / 64) * 64 + l.val % 64 = ((n.val * 8 + b.val) * 4096 + s.val) * 2048 + l.val
    omega
  generalize blk s = g
  generalize hd l = h
  pointwise

theorem bmax_at (t : FVec Ideal S3x8x4096x2048 .f32) (n : Fin 3) (b : Fin 8) (g h : Fin 32) :
    bmaxOf t (ix4 n b g h) = amax (fun s d => t (ix4 n b s (gcol h d))) g := by
  refine eq_amax _ _ _ fun z => ?_
  unfold bmaxOf
  rw [reduce_max_le]
  have key : ∀ (r : Fin 128) (d : Fin 64), shapeCast S3x8x32x128x32x64 (Host.absf t) shapeCasts_S3x8x4096x2048_S3x8x32x128x32x64 (ix6 n b g r h d)
      = max (t (ix4 n b (row g r) (gcol h d))) (-(t (ix4 n b (row g r) (gcol h d)))) := by
    intro r d
    refine (shapeCast_apply _ _ _ (ix4 n b (row g r) (gcol h d) : S3x8x4096x2048.Idx) ?_).trans rfl
    rw [Shape.rowMajor_val_four, Shape.rowMajor_val_six]
    show ((n.val * 8 + b.val) * 4096 + (128 * g.val + r.val)) * 2048 + (64 * h.val + d.val) = ((((n.val * 8 + b.val) * 32 + g.val) * 128 + r.val) * 32 + h.val) * 64 + d.val
    omega
  have hb : constant (F := Ideal) S_ .f32 0xFF800000#32 (Shape.Idx.first h_S_) = ⊥ := by
    show Ideal.ofBits .f32 0xFF800000#32 = ⊥
    simp [Ideal.ofBits, Ideal.ieee]
  rw [hb]
  constructor
  · rintro ⟨-, H⟩ r d
    rw [← key r d]
    refine H _ (funext fun a => Fin.ext ?_)
    match a with
    | ⟨0, _⟩ => exact Shape.ReducesTo.drop_apply_val_of_eq reducesTo_S3x8x32x128x32x64_S3x8x32x32_d3_5 (ix6 n b g r h d) 0 0
    | ⟨1, _⟩ => exact Shape.ReducesTo.drop_apply_val_of_eq reducesTo_S3x8x32x128x32x64_S3x8x32x32_d3_5 (ix6 n b g r h d) 1 1
    | ⟨2, _⟩ => exact Shape.ReducesTo.drop_apply_val_of_eq reducesTo_S3x8x32x128x32x64_S3x8x32x32_d3_5 (ix6 n b g r h d) 2 2
    | ⟨3, _⟩ => exact Shape.ReducesTo.drop_apply_val_of_eq reducesTo_S3x8x32x128x32x64_S3x8x32x32_d3_5 (ix6 n b g r h d) 3 4
  · intro H
    refine ⟨bot_le, fun i hi => ?_⟩
    obtain ⟨n', b', g', r, h', d, rfl⟩ : ∃ (n' : Fin 3) (b' : Fin 8) (g' : Fin 32) (r : Fin 128) (h' : Fin 32) (d : Fin 64), i = ix6 n' b' g' r h' d :=
      ⟨i 0, i 1, i 2, i 3, i 4, i 5, eq_ix6 i⟩
    have e0 : n' = n := Fin.ext ((Shape.ReducesTo.drop_apply_val_of_eq reducesTo_S3x8x32x128x32x64_S3x8x32x32_d3_5 (ix6 n' b' g' r h' d) 0 0).symm.trans (congrArg Fin.val (congrFun hi 0)))
    have e1 : b' = b := Fin.ext ((Shape.ReducesTo.drop_apply_val_of_eq reducesTo_S3x8x32x128x32x64_S3x8x32x32_d3_5 (ix6 n' b' g' r h' d) 1 1).symm.trans (congrArg Fin.val (congrFun hi 1)))
    have e2 : g' = g := Fin.ext ((Shape.ReducesTo.drop_apply_val_of_eq reducesTo_S3x8x32x128x32x64_S3x8x32x32_d3_5 (ix6 n' b' g' r h' d) 2 2).symm.trans (congrArg Fin.val (congrFun hi 2)))
    have e3 : h' = h := Fin.ext ((Shape.ReducesTo.drop_apply_val_of_eq reducesTo_S3x8x32x128x32x64_S3x8x32x32_d3_5 (ix6 n' b' g' r h' d) 3 4).symm.trans (congrArg Fin.val (congrFun hi 3)))
    subst e0 e1 e2 e3
    rw [key]
    exact H r d

variable (m : (ℓ : Loc nD τ sig) → Buf (Elt Ideal) ℓ)

/-- The arguments as launched. -/
abbrev aX (c : Dev nD) : SX.Idx → EReal := m ((c : Thread nD τ).loc main_arg0)
abbrev aK (c : Dev nD) : SX.Idx → EReal := m ((c : Thread nD τ).loc main_arg1)
abbrev aV (c : Dev nD) : SX.Idx → EReal := m ((c : Thread nD τ).loc main_arg2)
/-- The stack. -/
abbrev tOf (c : Dev nD) : FVec Ideal S3x8x4096x2048 .f32 := stackOf (aX m c) (aK m c) (aV m c)

theorem V_v4 (c : Dev nD) : Gen.V0 m c (Proc.devRef .tc main_v4) = tOf m c := by
  simp only [Gen.V0, Gen.hostOps0, List.flatten_cons, List.flatten_nil, List.append_nil]
  after_results_simp
  rfl
theorem V_v7 (c : Dev nD) : Gen.V0 m c (Proc.devRef .tc main_v7) = bmaxOf (tOf m c) := by
  simp only [Gen.V0, Gen.hostOps0, List.flatten_cons, List.flatten_nil, List.append_nil]
  after_results_simp
  rfl
theorem V_v10 (c : Dev nD) : Gen.V0 m c (Proc.devRef .tc main_v10) = tmaxOf (bmaxOf (tOf m c)) := by
  simp only [Gen.V0, Gen.hostOps0, List.flatten_cons, List.flatten_nil, List.append_nil]
  after_results_simp
  rfl

end Cert.ReferenceIdeal.Hand

end
-- ==== Proof.RPay.lean ====
/- What the reference's quantiser computes at an element: its code, and its scale. -/
module

public import proofs.«01_k».proof.Proof.RHead

@[expose] public section

set_option maxRecDepth 65536

noncomputable section

namespace Cert.ReferenceIdeal.Hand

open Cert.ReferenceIdeal Cert.ReferenceIdeal.Gen Idealize.ShloMosaic Idealize.ShloMosaic.TcCoe Idealize.ShloMosaic.Tactic Idealize.ShloMosaic.StableHlo Cert.Spec Cert.Glob
open Idealize.SL Idealize.SL.Sem

theorem pay2_at (w : Vec Ideal S3x8x32x32 .f32) (i : S3x8x32x32.Idx) : k0_pay2 w i = Quant.scl (w i) := by
  obtain ⟨n, b, g, h, rfl⟩ : ∃ (n : Fin 3) (b : Fin 8) (g h : Fin 32), i = ix4 n b g h := ⟨i 0, i 1, i 2, i 3, eq_ix4 i⟩
  pointwise [k0_pay2, Quant.scl, Quant.expo]
  rw [IdealRules.named_const.ideal_named_scalar _ _ _ _ rfl]
  rfl

theorem pay3_at (w t : Vec Ideal S3x8x4096x2048 .f32) (i : S3x8x4096x2048.Idx) : k0_pay3 w t i = Quant.code (t i) (w i) := by
  obtain ⟨n, b, g, h, rfl⟩ : ∃ (n : Fin 3) (b : Fin 8) (g : Fin 4096) (h : Fin 2048), i = ix4 n b g h := ⟨i 0, i 1, i 2, i 3, eq_ix4 i⟩
  pointwise [k0_pay3, Quant.code, Quant.inv, Quant.expo]
  rw [IdealRules.named_const.ideal_named_scalar _ _ _ _ rfl]
  simp
  rfl

theorem pay4_at (w t : Vec Ideal S3x8x4096x2048 .f32) (b : Fin 8) (s : Fin 4096) (l : Fin 2048) :
    k0_pay4 w t (ix3 b s l) = k0_pay3 w t (ix4 (0 : Fin 3) b s l) := by
  unfold k0_pay4
  generalize k0_pay3 w t = y
  pointwise
theorem pay5_at (w t : Vec Ideal S3x8x4096x2048 .f32) (b : Fin 8) (s : Fin 4096) (l : Fin 2048) :
    k0_pay5 w t (ix3 b s l) = k0_pay3 w t (ix4 (1 : Fin 3) b s l) := by
  unfold k0_pay5
  generalize k0_pay3 w t = y
  pointwise
theorem pay6_at (w t : Vec Ideal S3x8x4096x2048 .f32) (b : Fin 8) (s : Fin 4096) (l : Fin 2048) :
    k0_pay6 w t (ix3 b s l) = k0_pay3 w t (ix4 (2 : Fin 3) b s l) := by
  unfold k0_pay6
  generalize k0_pay3 w t = y
  pointwise

end Cert.ReferenceIdeal.Hand

end
-- ==== Proof.RRegion.lean ====
/- What the reference's quantiser leaves: the codes, the codes widened, and the scales, as functions of the arguments. -/
module

public import proofs.«01_k».proof.Proof.RPay
public import Idealize.ShloMosaic.Lib.Pipeline.ValueKit.Tiles

@[expose] public section

set_option maxRecDepth 65536

noncomputable section

namespace Cert.ReferenceIdeal.Hand

open Cert.ReferenceIdeal Cert.ReferenceIdeal.Gen Idealize.ShloMosaic Idealize.ShloMosaic.TcCoe Idealize.ShloMosaic.Tactic Idealize.ShloMosaic.StableHlo Cert.Spec Cert.Glob
open Idealize.SL Idealize.SL.Sem

theorem zero3 : (![0, 0, 0] : Fin 3 → ℕ) = fun _ => 0 := by decide
theorem zero4 : (![0, 0, 0, 0] : Fin 4 → ℕ) = fun _ => 0 := by decide

theorem emb_0 (t : Fin cfg0.N) (j : S3x8x4096x2048.Idx) : ((cfg0.win 0).blk t).view.emb j = j := by
  funext a
  refine Fin.ext ?_
  match a with
  | 0 => show 0 * 3 + 1 * (j 0).val = (j 0).val; omega
  | 1 => show 0 * 8 + 1 * (j 1).val = (j 1).val; omega
  | 2 => show 0 * 4096 + 1 * (j 2).val = (j 2).val; omega
  | 3 => show 0 * 2048 + 1 * (j 3).val = (j 3).val; omega
theorem emb_1 (t : Fin cfg0.N) (j : S3x8x4096x2048.Idx) : ((cfg0.win 1).blk t).view.emb j = j := by
  funext a
  refine Fin.ext ?_
  match a with
  | 0 => show 0 * 3 + 1 * (j 0).val = (j 0).val; omega
  | 1 => show 0 * 8 + 1 * (j 1).val = (j 1).val; omega
  | 2 => show 0 * 4096 + 1 * (j 2).val = (j 2).val; omega
  | 3 => show 0 * 2048 + 1 * (j 3).val = (j 3).val; omega
theorem emb_2 (t : Fin cfg0.N) (j : S3x8x32x32.Idx) : ((cfg0.win 2).blk t).view.emb j = j := by
  funext a
  refine Fin.ext ?_
  match a with
  | 0 => show 0 * 3 + 1 * (j 0).val = (j 0).val; omega
  | 1 => show 0 * 8 + 1 * (j 1).val = (j 1).val; omega
  | 2 => show 0 * 32 + 1 * (j 2).val = (j 2).val; omega
  | 3 => show 0 * 32 + 1 * (j 3).val = (j 3).val; omega
theorem emb_3 (t : Fin cfg0.N) (j : S8x4096x2048.Idx) : ((cfg0.win 3).blk t).view.emb j = j := by
  funext a
  refine Fin.ext ?_
  match a with
  | 0 => show 0 * 8 + 1 * (j 0).val = (j 0).val; omega
  | 1 => show 0 * 4096 + 1 * (j 1).val = (j 1).val; omega
  | 2 => show 0 * 2048 + 1 * (j 2).val = (j 2).val; omega
theorem emb_4 (t : Fin cfg0.N) (j : S8x4096x2048.Idx) : ((cfg0.win 4).blk t).view.emb j = j := by
  funext a
  refine Fin.ext ?_
  match a with
  | 0 => show 0 * 8 + 1 * (j 0).val = (j 0).val; omega
  | 1 => show 0 * 4096 + 1 * (j 1).val = (j 1).val; omega
  | 2 => show 0 * 2048 + 1 * (j 2).val = (j 2).val; omega
theorem emb_5 (t : Fin cfg0.N) (j : S8x4096x2048.Idx) : ((cfg0.win 5).blk t).view.emb j = j := by
  funext a
  refine Fin.ext ?_
  match a with
  | 0 => show 0 * 8 + 1 * (j 0).val = (j 0).val; omega
  | 1 => show 0 * 4096 + 1 * (j 1).val = (j 1).val; omega
  | 2 => show 0 * 2048 + 1 * (j 2).val = (j 2).val; omega
theorem emb_6 (t : Fin cfg0.N) (j : S3x8x4096x2048.Idx) : ((cfg0.win 6).blk t).view.emb j = j := by
  funext a
  refine Fin.ext ?_
  match a with
  | 0 => show 0 * 3 + 1 * (j 0).val = (j 0).val; omega
  | 1 => show 0 * 8 + 1 * (j 1).val = (j 1).val; omega
  | 2 => show 0 * 4096 + 1 * (j 2).val = (j 2).val; omega
  | 3 => show 0 * 2048 + 1 * (j 3).val = (j 3).val; omega
theorem emb_7 (t : Fin cfg0.N) (j : S3x8x32x32.Idx) : ((cfg0.win 7).blk t).view.emb j = j := by
  funext a
  refine Fin.ext ?_
  match a with
  | 0 => show 0 * 3 + 1 * (j 0).val = (j 0).val; omega
  | 1 => show 0 * 8 + 1 * (j 1).val = (j 1).val; omega
  | 2 => show 0 * 32 + 1 * (j 2).val = (j 2).val; omega
  | 3 => show 0 * 32 + 1 * (j 3).val = (j 3).val; omega

variable (m : (ℓ : Loc nD τ sig) → Buf (Elt Ideal) ℓ)

theorem read_0 (c : Dev nD) (t : Fin cfg0.N) (f : (b : Ref sig .tc) → Buf (Elt Ideal) ((c : Thread nD τ).loc b)) :
    ((cfg0.win 0).blk t).view.read (Elt Ideal) (f (Pipeline.arrRef spec0 0)) = f main_v4 := by
  funext j
  show f main_v4 (((cfg0.win 0).blk t).view.emb j) = _
  rw [emb_0]
theorem V_v4' (c : Dev nD) : V m c main_v4 = tOf m c := V_v4 m c
theorem iblk_0 (c : Dev nD) (t : Fin cfg0.N) : iblk m c 0 t = tOf m c := by
  unfold iblk
  exact (read_0 c t (V m c)).trans (V_v4' m c)
theorem read_1 (c : Dev nD) (t : Fin cfg0.N) (f : (b : Ref sig .tc) → Buf (Elt Ideal) ((c : Thread nD τ).loc b)) :
    ((cfg0.win 1).blk t).view.read (Elt Ideal) (f (Pipeline.arrRef spec0 1)) = f main_v10 := by
  funext j
  show f main_v10 (((cfg0.win 1).blk t).view.emb j) = _
  rw [emb_1]
theorem V_v10' (c : Dev nD) : V m c main_v10 = tmaxOf (bmaxOf (tOf m c)) := V_v10 m c
theorem iblk_1 (c : Dev nD) (t : Fin cfg0.N) : iblk m c 1 t = tmaxOf (bmaxOf (tOf m c)) := by
  unfold iblk
  exact (read_1 c t (V m c)).trans (V_v10' m c)
theorem read_2 (c : Dev nD) (t : Fin cfg0.N) (f : (b : Ref sig .tc) → Buf (Elt Ideal) ((c : Thread nD τ).loc b)) :
    ((cfg0.win 2).blk t).view.read (Elt Ideal) (f (Pipeline.arrRef spec0 2)) = f main_v7 := by
  funext j
  show f main_v7 (((cfg0.win 2).blk t).view.emb j) = _
  rw [emb_2]
theorem V_v7' (c : Dev nD) : V m c main_v7 = bmaxOf (tOf m c) := V_v7 m c
theorem iblk_2 (c : Dev nD) (t : Fin cfg0.N) : iblk m c 2 t = bmaxOf (tOf m c) := by
  unfold iblk
  exact (read_2 c t (V m c)).trans (V_v7' m c)

/-- The codes of the stack. -/
def codesT (c : Dev nD) : S3x8x4096x2048.Idx → EReal := k0_pay3 (F := Ideal) (tmaxOf (bmaxOf (tOf m c))) (tOf m c)
/-- The scales of the stack. -/
def scalesT (c : Dev nD) : S3x8x32x32.Idx → EReal := k0_pay2 (F := Ideal) (bmaxOf (tOf m c))

theorem codesT_at (c : Dev nD) (n : Fin 3) (b : Fin 8) (s : Fin 4096) (l : Fin 2048) :
    codesT m c (ix4 n b s l) = code (fun s d => tOf m c (ix4 n b s (gcol (hd l) d))) s (pl l) := by
  unfold codesT
  rw [pay3_at, tmax_at, bmax_at]
  show Quant.code (tOf m c (ix4 n b s l)) _ = Quant.code (tOf m c (ix4 n b s (gcol (hd l) (pl l)))) _
  rw [gcol_hd]

theorem scalesT_at (c : Dev nD) (n : Fin 3) (b : Fin 8) (g h : Fin 32) :
    scalesT m c (ix4 n b g h) = scl (fun s d => tOf m c (ix4 n b s (gcol h d))) g := by
  unfold scalesT
  rw [pay2_at, bmax_at]
  rfl

theorem tHead_0 (c : Dev nD) (b : Fin 8) (h : Fin 32) : (fun s d => tOf m c (ix4 (0 : Fin 3) b s (gcol h d))) = head (aX m c) b h := by
  funext s d; exact stack_0 _ _ _ b s (gcol h d)
theorem tHead_1 (c : Dev nD) (b : Fin 8) (h : Fin 32) : (fun s d => tOf m c (ix4 (1 : Fin 3) b s (gcol h d))) = head (aK m c) b h := by
  funext s d; exact stack_1 _ _ _ b s (gcol h d)
theorem tHead_2 (c : Dev nD) (b : Fin 8) (h : Fin 32) : (fun s d => tOf m c (ix4 (2 : Fin 3) b s (gcol h d))) = head (aV m c) b h := by
  funext s d; exact stack_2 _ _ _ b s (gcol h d)

theorem N_pos : 0 < cfg0.N := by decide +kernel

theorem final_3 (c : Dev nD) : (dats m 0 c).arrAt 3 cfg0.N = C (aX m c) := by
  refine (dats m 0 c).arrAt_eq_of_cover 3 (C (aX m c)) (fun t _ => ?_) fun i => ?_
  · show (cfg0.win 3).cut (grid0.coords t) ((dats m 0 c).after 3 t) = _
    rw [after0_3, iblk_0, iblk_1, iblk_2]
    funext j
    show out0_3 (F := Ideal) _ _ _ j = (C (aX m c)) (((cfg0.win 3).blk t).view.emb j)
    rw [emb_3]
    obtain ⟨b, s, l, rfl⟩ : ∃ (b : Fin 8) (s : Fin 4096) (l : Fin 2048), j = ix3 b s l := ⟨j 0, j 1, j 2, eq_ix3 j⟩
    unfold out0_3
    rw [View.canon_unit_zero zero3, View.ld_unit_zero zero4, View.ld_unit_zero zero4, pay4_at]
    exact (codesT_at m c 0 b s l).trans (congrArg (fun x : Head => code x s (pl l)) (tHead_0 m c b (hd l)))
  · have h := ((cfg0.win 3).blk ⟨0, N_pos⟩).view.emb_mem_set i
    rw [emb_3] at h
    exact ⟨⟨0, N_pos⟩, flush0_3 _, h⟩

theorem final_4 (c : Dev nD) : (dats m 0 c).arrAt 4 cfg0.N = C (aK m c) := by
  refine (dats m 0 c).arrAt_eq_of_cover 4 (C (aK m c)) (fun t _ => ?_) fun i => ?_
  · show (cfg0.win 4).cut (grid0.coords t) ((dats m 0 c).after 4 t) = _
    rw [after0_4, iblk_0, iblk_1, iblk_2]
    funext j
    show out0_4 (F := Ideal) _ _ _ j = (C (aK m c)) (((cfg0.win 4).blk t).view.emb j)
    rw [emb_4]
    obtain ⟨b, s, l, rfl⟩ : ∃ (b : Fin 8) (s : Fin 4096) (l : Fin 2048), j = ix3 b s l := ⟨j 0, j 1, j 2, eq_ix3 j⟩
    unfold out0_4
    rw [View.canon_unit_zero zero3, View.ld_unit_zero zero4, View.ld_unit_zero zero4, pay5_at]
    exact (codesT_at m c 1 b s l).trans (congrArg (fun x : Head => code x s (pl l)) (tHead_1 m c b (hd l)))
  · have h := ((cfg0.win 4).blk ⟨0, N_pos⟩).view.emb_mem_set i
    rw [emb_4] at h
    exact ⟨⟨0, N_pos⟩, flush0_4 _, h⟩

theorem final_5 (c : Dev nD) : (dats m 0 c).arrAt 5 cfg0.N = C (aV m c) := by
  refine (dats m 0 c).arrAt_eq_of_cover 5 (C (aV m c)) (fun t _ => ?_) fun i => ?_
  · show (cfg0.win 5).cut (grid0.coords t) ((dats m 0 c).after 5 t) = _
    rw [after0_5, iblk_0, iblk_1, iblk_2]
    funext j
    show out0_5 (F := Ideal) _ _ _ j = (C (aV m c)) (((cfg0.win 5).blk t).view.emb j)
    rw [emb_5]
    obtain ⟨b, s, l, rfl⟩ : ∃ (b : Fin 8) (s : Fin 4096) (l : Fin 2048), j = ix3 b s l := ⟨j 0, j 1, j 2, eq_ix3 j⟩
    unfold out0_5
    rw [View.canon_unit_zero zero3, View.ld_unit_zero zero4, View.ld_unit_zero zero4, pay6_at]
    exact (codesT_at m c 2 b s l).trans (congrArg (fun x : Head => code x s (pl l)) (tHead_2 m c b (hd l)))
  · have h := ((cfg0.win 5).blk ⟨0, N_pos⟩).view.emb_mem_set i
    rw [emb_5] at h
    exact ⟨⟨0, N_pos⟩, flush0_5 _, h⟩

theorem out_6 (c : Dev nD) (x2 : Vec Ideal S3x8x32x32 .f32) (j : S3x8x4096x2048.Idx) :
    out0_6 (F := Ideal) (tOf m c) (tmaxOf (bmaxOf (tOf m c))) x2 j = codesT m c j := by
  unfold out0_6 codesT
  rw [View.canon_unit_zero zero4, View.ld_unit_zero zero4, View.ld_unit_zero zero4]
  generalize k0_pay3 (F := Ideal) (tmaxOf (bmaxOf (tOf m c))) (tOf m c) = y
  rfl

theorem out_7 (c : Dev nD) (x0 x1 : Vec Ideal S3x8x4096x2048 .f32) (j : S3x8x32x32.Idx) :
    out0_7 (F := Ideal) x0 x1 (bmaxOf (tOf m c)) j = scalesT m c j := by
  unfold out0_7 scalesT
  rw [View.canon_unit_zero zero4, View.ld_unit_zero zero4]

theorem final_6 (c : Dev nD) : (dats m 0 c).arrAt 6 cfg0.N = codesT m c := by
  obtain ⟨G, hG⟩ : ∃ G : S3x8x4096x2048.Idx → EReal, G = codesT m c := ⟨_, rfl⟩
  rw [← hG]
  refine (dats m 0 c).arrAt_eq_of_cover 6 G (fun t _ => ?_) fun i => ?_
  · show (cfg0.win 6).cut (grid0.coords t) ((dats m 0 c).after 6 t) = _
    rw [after0_6, iblk_0, iblk_1, iblk_2]
    funext j
    refine (show out0_6 (F := Ideal) _ _ _ j = G j from ?_).trans (congrArg G (emb_6 t j)).symm
    rw [hG]
    exact out_6 m c _ j
  · have h := ((cfg0.win 6).blk ⟨0, N_pos⟩).view.emb_mem_set i
    rw [emb_6] at h
    exact ⟨⟨0, N_pos⟩, flush0_6 _, h⟩

theorem final_7 (c : Dev nD) : (dats m 0 c).arrAt 7 cfg0.N = scalesT m c := by
  obtain ⟨G, hG⟩ : ∃ G : S3x8x32x32.Idx → EReal, G = scalesT m c := ⟨_, rfl⟩
  rw [← hG]
  refine (dats m 0 c).arrAt_eq_of_cover 7 G (fun t _ => ?_) fun i => ?_
  · show (cfg0.win 7).cut (grid0.coords t) ((dats m 0 c).after 7 t) = _
    rw [after0_7, iblk_0, iblk_1, iblk_2]
    funext j
    refine (show out0_7 (F := Ideal) _ _ _ j = G j from ?_).trans (congrArg G (emb_7 t j)).symm
    rw [hG]
    exact out_7 m c _ _ j
  · have h := ((cfg0.win 7).blk ⟨0, N_pos⟩).view.emb_mem_set i
    rw [emb_7] at h
    exact ⟨⟨0, N_pos⟩, flush0_7 _, h⟩

end Cert.ReferenceIdeal.Hand

end
-- ==== Proof.RLay.lean ====
/- The reference's lines after its quantiser, read at an index: `r3` is the stack of codes widened, `r4` the stack of
   scales. -/
module

public import proofs.«01_k».proof.Proof.Gen.ReferenceIdeal.Read
public import proofs.«01_k».proof.Proof.RHead

@[expose] public section

set_option maxRecDepth 65536

noncomputable section

namespace Cert.ReferenceIdeal.Hand

open Cert.ReferenceIdeal Cert.ReferenceIdeal.Gen Cert.ReferenceIdeal.Read Idealize.ShloMosaic Idealize.ShloMosaic.TcCoe Idealize.ShloMosaic.Tactic Idealize.ShloMosaic.StableHlo Cert.Spec Cert.Glob

variable (r3 : FVec Ideal S3x8x4096x2048 .f32) (r4 : FVec Ideal S3x8x32x32 .f32)

/-! Index functions of the layout operations. -/

theorem i18 (b : Fin 8) (s : Fin 4096) (l : Fin 2048) : idx_main_v18 (ix4 (0 : Fin 1) b s l) = ix4 (0 : Fin 3) b s l :=
  funext fun a => match a with | ⟨0, _⟩ => rfl | ⟨1, _⟩ => rfl | ⟨2, _⟩ => rfl | ⟨3, _⟩ => rfl
theorem i20 (b : Fin 8) (s : Fin 4096) (l : Fin 2048) : idx_main_v20 (ix4 (0 : Fin 1) b s l) = ix4 (1 : Fin 3) b s l :=
  funext fun a => match a with | ⟨0, _⟩ => rfl | ⟨1, _⟩ => rfl | ⟨2, _⟩ => rfl | ⟨3, _⟩ => rfl
theorem i22 (b : Fin 8) (s : Fin 4096) (l : Fin 2048) : idx_main_v22 (ix4 (0 : Fin 1) b s l) = ix4 (2 : Fin 3) b s l :=
  funext fun a => match a with | ⟨0, _⟩ => rfl | ⟨1, _⟩ => rfl | ⟨2, _⟩ => rfl | ⟨3, _⟩ => rfl
theorem i12 (b : Fin 8) (g h : Fin 32) : idx_main_v12 (ix4 (0 : Fin 1) b g h) = ix4 (0 : Fin 3) b g h :=
  funext fun a => match a with | ⟨0, _⟩ => rfl | ⟨1, _⟩ => rfl | ⟨2, _⟩ => rfl | ⟨3, _⟩ => rfl
theorem i14 (b : Fin 8) (g h : Fin 32) : idx_main_v14 (ix4 (0 : Fin 1) b g h) = ix4 (1 : Fin 3) b g h :=
  funext fun a => match a with | ⟨0, _⟩ => rfl | ⟨1, _⟩ => rfl | ⟨2, _⟩ => rfl | ⟨3, _⟩ => rfl
theorem i16 (b : Fin 8) (g h : Fin 32) : idx_main_v16 (ix4 (0 : Fin 1) b g h) = ix4 (2 : Fin 3) b g h :=
  funext fun a => match a with | ⟨0, _⟩ => rfl | ⟨1, _⟩ => rfl | ⟨2, _⟩ => rfl | ⟨3, _⟩ => rfl

/-- A leading axis of size one dropped, of an array of scales. -/
theorem drop_scale (y : FVec Ideal S1x8x32x32 .f32) (b : Fin 8) (g h : Fin 32) :
    shapeCast S8x32x32 y shapeCasts_S1x8x32x32_S8x32x32 (ix3 b g h) = y (ix4 (0 : Fin 1) b g h) := by
  refine shapeCast_apply _ _ _ _ ?_
  rw [Shape.rowMajor_val_four, Shape.rowMajor_val_three]
  show ((0 * 8 + b.val) * 32 + g.val) * 32 + h.val = (b.val * 32 + g.val) * 32 + h.val
  omega
/-- The same, of an array of codes; then the columns split into heads. -/
theorem drop_code (y : FVec Ideal S1x8x4096x2048 .f32) (b : Fin 8) (s : Fin 4096) (l : Fin 2048) :
    shapeCast S8x4096x2048 y shapeCasts_S1x8x4096x2048_S8x4096x2048 (ix3 b s l) = y (ix4 (0 : Fin 1) b s l) := by
  refine shapeCast_apply _ _ _ _ ?_
  rw [Shape.rowMajor_val_four, Shape.rowMajor_val_three]
  show ((0 * 8 + b.val) * 4096 + s.val) * 2048 + l.val = (b.val * 4096 + s.val) * 2048 + l.val
  omega
theorem split_heads (y : FVec Ideal S8x4096x2048 .f32) (b : Fin 8) (s : Fin 4096) (h : Fin 32) (d : Fin 64) :
    shapeCast S8x4096x32x64 y shapeCasts_S8x4096x2048_S8x4096x32x64 (ix4 b s h d) = y (ix3 b s (gcol h d)) := by
  refine shapeCast_apply _ _ _ _ ?_
  rw [Shape.rowMajor_val_four, Shape.rowMajor_val_three]
  show (b.val * 4096 + s.val) * 2048 + (64 * h.val + d.val) = ((b.val * 4096 + s.val) * 32 + h.val) * 64 + d.val
  omega
theorem join_heads (y : FVec Ideal S8x4096x32x64 .f32) (b : Fin 8) (s : Fin 4096) (l : Fin 2048) :
    shapeCast S8x4096x2048 y shapeCasts_S8x4096x32x64_S8x4096x2048 (ix3 b s l) = y (ix4 b s (hd l) (pl l)) := by
  refine shapeCast_apply _ _ _ _ ?_
  rw [Shape.rowMajor_val_four, Shape.rowMajor_val_three]
  show ((b.val * 4096 + s.val) * 32 + l.val / 64) * 64 + l.val % 64 = (b.val * 4096 + s.val) * 2048 + l.val
  omega
/-- A scale of each block, at each row. -/
theorem rows_scale (y : FVec Ideal S8x32x32 .f32) (b : Fin 8) (s : Fin 4096) (h : Fin 32) :
    shapeCast S8x4096x32 (broadcastInDim S8x32x128x32 ![0, 1, 3] bcast_S8x32x32_S8x32x128x32_0_1_3 y) shapeCasts_S8x32x128x32_S8x4096x32 (ix3 b s h)
      = y (ix3 b (blk s) h) := by
  refine (shapeCast_apply _ _ _ (ix4 b (blk s) (⟨s.val % 128, by omega⟩ : Fin 128) h : S8x32x128x32.Idx) ?_).trans ?_
  · rw [Shape.rowMajor_val_four, Shape.rowMajor_val_three]
    show ((b.val * 32 + s.val / 128) * 128 + s.val % 128) * 32 + h.val = (b.val * 4096 + s.val) * 32 + h.val
    omega
  generalize blk s = g
  pointwise

/-! The scales and the codes. -/

theorem v13_at (b : Fin 8) (g h : Fin 32) : val_main_v13 (F := Ideal) r4 (ix3 b g h) = r4 (ix4 (0 : Fin 3) b g h) := by
  unfold val_main_v13
  rw [drop_scale, val_main_v12_apply, i12]
theorem v15_at (b : Fin 8) (g h : Fin 32) : val_main_v15 (F := Ideal) r4 (ix3 b g h) = r4 (ix4 (1 : Fin 3) b g h) := by
  unfold val_main_v15
  rw [drop_scale, val_main_v14_apply, i14]
theorem v17_at (b : Fin 8) (g h : Fin 32) : val_main_v17 (F := Ideal) r4 (ix3 b g h) = r4 (ix4 (2 : Fin 3) b g h) := by
  unfold val_main_v17
  rw [drop_scale, val_main_v16_apply, i16]
theorem v24_at (b : Fin 8) (s : Fin 4096) (h : Fin 32) (d : Fin 64) :
    val_main_v24 (F := Ideal) r3 (ix4 b s h d) = r3 (ix4 (0 : Fin 3) b s (gcol h d)) := by
  unfold val_main_v24 val_main_v19
  rw [split_heads, drop_code, val_main_v18_apply, i18]
theorem v25_at (b : Fin 8) (s : Fin 4096) (h : Fin 32) (d : Fin 64) :
    val_main_v25 (F := Ideal) r3 (ix4 b s h d) = r3 (ix4 (1 : Fin 3) b s (gcol h d)) := by
  unfold val_main_v25 val_main_v21
  rw [split_heads, drop_code, val_main_v20_apply, i20]
theorem v57_at (b : Fin 8) (s : Fin 4096) (h : Fin 32) (d : Fin 64) :
    val_main_v57 (F := Ideal) r3 (ix4 b s h d) = r3 (ix4 (2 : Fin 3) b s (gcol h d)) := by
  unfold val_main_v57 val_main_v23
  rw [split_heads, drop_code, val_main_v22_apply, i22]
theorem v28_at (b : Fin 8) (s : Fin 4096) (h : Fin 32) :
    val_main_v28 (F := Ideal) r4 (ix3 b s h) = r4 (ix4 (0 : Fin 3) b (blk s) h) := by
  unfold val_main_v28 val_main_v27
  rw [rows_scale, v13_at]
theorem v32_at (b : Fin 8) (s : Fin 4096) (h : Fin 32) :
    val_main_v32 (F := Ideal) r4 (ix3 b s h) = r4 (ix4 (1 : Fin 3) b (blk s) h) := by
  unfold val_main_v32 val_main_v31
  rw [rows_scale, v15_at]
theorem v59_at (b : Fin 8) (s : Fin 4096) (h : Fin 32) :
    val_main_v59 (F := Ideal) r4 (ix3 b s h) = r4 (ix4 (2 : Fin 3) b (blk s) h) := by
  unfold val_main_v59 val_main_v58
  rw [rows_scale, v17_at]

/-! The scores. -/

theorem v26_at (b : Fin 8) (h : Fin 32) (q k : Fin 4096) :
    val_main_v26 (F := Ideal) r3 (ix4 b h q k) = ∑ d : Fin 64, r3 (ix4 (0 : Fin 3) b q (gcol h d)) * r3 (ix4 (1 : Fin 3) b k (gcol h d)) := by
  rw [val_main_v26_apply]
  refine Finset.sum_congr rfl fun d _ => ?_
  have el : lidx_main_v26 (ix4 b h q k) d = ix4 b q h d :=
    funext fun a => match a with | ⟨0, _⟩ => rfl | ⟨1, _⟩ => rfl | ⟨2, _⟩ => rfl | ⟨3, _⟩ => rfl
  have er : ridx_main_v26 (ix4 b h q k) d = ix4 b k h d :=
    funext fun a => match a with | ⟨0, _⟩ => rfl | ⟨1, _⟩ => rfl | ⟨2, _⟩ => rfl | ⟨3, _⟩ => rfl
  rw [el, er, v24_at, v25_at]

theorem v35_at (b : Fin 8) (h : Fin 32) (q k : Fin 4096) :
    val_main_v35 (F := Ideal) r4 (ix4 b h q k) = r4 (ix4 (0 : Fin 3) b (blk q) h) := by
  rw [val_main_v35_apply, val_main_v30_apply, val_main_v29_apply]
  refine Eq.trans ?_ (v28_at r4 b q h)
  exact congrArg _ (funext fun a => match a with | ⟨0, _⟩ => rfl | ⟨1, _⟩ => rfl | ⟨2, _⟩ => rfl)
theorem v36_at (b : Fin 8) (h : Fin 32) (q k : Fin 4096) :
    val_main_v36 (F := Ideal) r4 (ix4 b h q k) = r4 (ix4 (1 : Fin 3) b (blk k) h) := by
  rw [val_main_v36_apply, val_main_v34_apply, val_main_v33_apply]
  refine Eq.trans ?_ (v32_at r4 b k h)
  exact congrArg _ (funext fun a => match a with | ⟨0, _⟩ => rfl | ⟨1, _⟩ => rfl | ⟨2, _⟩ => rfl)

theorem v40_at (b : Fin 8) (h : Fin 32) (q k : Fin 4096) :
    val_main_v40 (F := Ideal) r3 r4 (ix4 b h q k)
      = (∑ d : Fin 64, r3 (ix4 (0 : Fin 3) b q (gcol h d)) * r3 (ix4 (1 : Fin 3) b k (gcol h d)))
        * (r4 (ix4 (0 : Fin 3) b (blk q) h) * r4 (ix4 (1 : Fin 3) b (blk k) h) * Ideal.ofBits .f32 0x3E000000#32) := by
  rw [val_main_v40_apply, val_main_v39_apply, val_main_v37_apply, v26_at, v35_at, v36_at, val_main_v38_apply]
  rfl

/-- The causal mask, on words. -/
theorem sle_word (a b : ℕ) (ha : a < 4096) (hb : b < 4096) :
    IntOp.cmpi .sle (BitVec.ofNat 32 a) (BitVec.ofNat 32 b) = if a ≤ b then 1#1 else 0#1 := by
  have e : ∀ n, n < 4096 → (BitVec.ofNat 32 n).toInt = n := fun n hn => by
    have h : ((n : ℤ)).bmod (2 ^ 32) = n := Int.bmod_eq_of_le (by norm_num) (by norm_num; omega)
    rw [BitVec.toInt_ofNat', h]
  simp only [IntOp.cmpi, BitVec.sle, e a ha, e b hb, Nat.cast_le]
  by_cases h : a ≤ b <;> simp [h]

theorem v47_at (b : Fin 8) (h : Fin 32) (q k : Fin 4096) :
    val_main_v47 (F := Ideal) r3 r4 (ix4 b h q k) = if k ≤ q then val_main_v40 (F := Ideal) r3 r4 (ix4 b h q k) else ⊥ := by
  have e : val_main_call0_v1 (F := Ideal) (ix4 b h q k) = if k ≤ q then 1#1 else 0#1 := by
    rw [val_main_call0_v1_apply, val_main_v46_apply, val_main_v44_apply, val_main_v45_apply, val_main_v42_apply, val_main_v43_apply]
    exact sle_word k.val q.val k.isLt q.isLt
  have e' : val_main_call0_v2 (F := Ideal) (ix4 b h q k) = ⊥ := by
    rw [val_main_call0_v2_apply, val_main_call0_v0_apply, val_main_cst_1_apply]
    show Ideal.ofBits .f32 0xFF800000#32 = ⊥
    simp [Ideal.ofBits, Ideal.ieee]
  rw [val_main_v47_apply, e, e']
  generalize val_main_v40 (F := Ideal) r3 r4 (ix4 b h q k) = y
  by_cases hk : k ≤ q
  · rw [if_pos hk, if_pos hk]; rfl
  · rw [if_neg hk, if_neg hk]; rfl

/-- The largest score of a query row. -/
theorem v48_le (b : Fin 8) (h : Fin 32) (q : Fin 4096) (z : EReal) :
    val_main_v48 (F := Ideal) r3 r4 (ix3 b h q) ≤ z ↔ ∀ k, val_main_v47 (F := Ideal) r3 r4 (ix4 b h q k) ≤ z := by
  unfold val_main_v48
  generalize val_main_v47 (F := Ideal) r3 r4 = y
  rw [reduce_max_le]
  have hb : val_main_cst_2 (F := Ideal) (Shape.Idx.first h_S_) = ⊥ := by
    show Ideal.ofBits .f32 0xFF800000#32 = ⊥
    simp [Ideal.ofBits, Ideal.ieee]
  rw [hb]
  constructor
  · rintro ⟨-, H⟩ k
    refine H _ (funext fun a => Fin.ext ?_)
    match a with
    | ⟨0, _⟩ => exact Shape.ReducesTo.drop_apply_val_of_eq reducesTo_S8x32x4096x4096_S8x32x4096_d3 (ix4 b h q k) 0 0
    | ⟨1, _⟩ => exact Shape.ReducesTo.drop_apply_val_of_eq reducesTo_S8x32x4096x4096_S8x32x4096_d3 (ix4 b h q k) 1 1
    | ⟨2, _⟩ => exact Shape.ReducesTo.drop_apply_val_of_eq reducesTo_S8x32x4096x4096_S8x32x4096_d3 (ix4 b h q k) 2 2
  · intro H
    refine ⟨bot_le, fun i hi => ?_⟩
    obtain ⟨b', h', q', k, rfl⟩ : ∃ (b' : Fin 8) (h' : Fin 32) (q' k : Fin 4096), i = ix4 b' h' q' k := ⟨i 0, i 1, i 2, i 3, eq_ix4 i⟩
    have e0 : b' = b := Fin.ext ((Shape.ReducesTo.drop_apply_val_of_eq reducesTo_S8x32x4096x4096_S8x32x4096_d3 (ix4 b' h' q' k) 0 0).symm.trans (congrArg Fin.val (congrFun hi 0)))
    have e1 : h' = h := Fin.ext ((Shape.ReducesTo.drop_apply_val_of_eq reducesTo_S8x32x4096x4096_S8x32x4096_d3 (ix4 b' h' q' k) 1 1).symm.trans (congrArg Fin.val (congrFun hi 1)))
    have e2 : q' = q := Fin.ext ((Shape.ReducesTo.drop_apply_val_of_eq reducesTo_S8x32x4096x4096_S8x32x4096_d3 (ix4 b' h' q' k) 2 2).symm.trans (congrArg Fin.val (congrFun hi 2)))
    subst e0 e1 e2
    exact H k

/-! The weights, their sum, their codes, the values. -/

theorem v52_at (b : Fin 8) (h : Fin 32) (q k : Fin 4096) :
    val_main_v52 (F := Ideal) r3 r4 (ix4 b h q k)
      = Ideal.exp (val_main_v47 (F := Ideal) r3 r4 (ix4 b h q k) - val_main_v48 (F := Ideal) r3 r4 (ix3 b h q)) := by
  have e : val_main_v50 (F := Ideal) r3 r4 (ix4 b h q k) = val_main_v48 (F := Ideal) r3 r4 (ix3 b h q) := by
    rw [val_main_v50_apply, val_main_v49_apply]
    exact congrArg _ (funext fun a => match a with | ⟨0, _⟩ => rfl | ⟨1, _⟩ => rfl | ⟨2, _⟩ => rfl)
  rw [val_main_v52_apply, val_main_v51_apply, e]
  rfl

theorem v53_at (b : Fin 8) (h : Fin 32) (q : Fin 4096) :
    val_main_v53 (F := Ideal) r3 r4 (ix3 b h q)
      = Ideal.ofBits .f32 0x00000000#32
        + ∑ k : Fin 4096, Ideal.exp (val_main_v47 (F := Ideal) r3 r4 (ix4 b h q k) - val_main_v48 (F := Ideal) r3 r4 (ix3 b h q)) := by
  rw [val_main_v53_apply]
  refine congrArg₂ _ rfl (Finset.sum_congr rfl fun k _ => ?_)
  rw [← v52_at]
  exact congrArg _ (funext fun a => match a with | ⟨0, _⟩ => rfl | ⟨1, _⟩ => rfl | ⟨2, _⟩ => rfl | ⟨3, _⟩ => rfl)

theorem v56_at (b : Fin 8) (h : Fin 32) (q k : Fin 4096) :
    val_main_v56 (F := Ideal) r3 r4 (ix4 b h q k)
      = min (Ideal.ofBits .f32 0x43E00000#32) (max (Ideal.ofBits .f32 0x00000000#32)
          (Ideal.exp (val_main_v47 (F := Ideal) r3 r4 (ix4 b h q k) - val_main_v48 (F := Ideal) r3 r4 (ix3 b h q)) * Ideal.ofBits .f32 0x43800000#32)) := by
  rw [val_main_v56_apply, val_main_call1_v4_apply, val_main_call1_v2_apply, val_main_call1_v1_apply, val_main_v55_apply, v52_at, val_main_v54_apply]
  rfl

theorem v64_at (b : Fin 8) (k : Fin 4096) (h : Fin 32) (d : Fin 64) :
    val_main_v64 (F := Ideal) r3 r4 (ix4 b k h d)
      = r3 (ix4 (2 : Fin 3) b k (gcol h d)) * (Ideal.ofBits .f32 0x3B800000#32 * r4 (ix4 (2 : Fin 3) b (blk k) h)) := by
  have e : val_main_v63 (F := Ideal) r4 (ix4 b k h d) = val_main_v61 (F := Ideal) r4 (ix3 b k h) := by
    rw [val_main_v63_apply, val_main_v62_apply]
    exact congrArg _ (funext fun a => match a with | ⟨0, _⟩ => rfl | ⟨1, _⟩ => rfl | ⟨2, _⟩ => rfl)
  rw [val_main_v64_apply, v57_at, e, val_main_v61_apply, v59_at, val_main_v60_apply]
  rfl

theorem v71_at (b : Fin 8) (q : Fin 4096) (l : Fin 2048) :
    val_main_v71 (F := Ideal) r3 r4 (ix3 b q l)
      = Ideal.div (val_main_v65 (F := Ideal) r3 r4 (ix4 b (hd l) q (pl l))) (val_main_v53 (F := Ideal) r3 r4 (ix3 b (hd l) q)) := by
  have e : val_main_v70 (F := Ideal) r3 r4 (ix3 b q l) = val_main_v68 (F := Ideal) r3 r4 (ix4 b (hd l) q (pl l)) := by
    unfold val_main_v70
    rw [join_heads, val_main_v69_apply]
    exact congrArg _ (funext fun a => match a with | ⟨0, _⟩ => rfl | ⟨1, _⟩ => rfl | ⟨2, _⟩ => rfl | ⟨3, _⟩ => rfl)
  have e' : val_main_v67 (F := Ideal) r3 r4 (ix4 b (hd l) q (pl l)) = val_main_v53 (F := Ideal) r3 r4 (ix3 b (hd l) q) := by
    rw [val_main_v67_apply, val_main_v66_apply]
    exact congrArg _ (funext fun a => match a with | ⟨0, _⟩ => rfl | ⟨1, _⟩ => rfl | ⟨2, _⟩ => rfl)
  rw [val_main_v71_apply, e, val_main_v68_apply, e']
  rfl

/-- The output as one quotient of sums over the keys. -/
theorem v71_sum (b : Fin 8) (q : Fin 4096) (l : Fin 2048) :
    val_main_v71 (F := Ideal) r3 r4 (ix3 b q l)
      = Ideal.div
          (∑ k : Fin 4096, min (Ideal.ofBits .f32 0x43E00000#32) (max (Ideal.ofBits .f32 0x00000000#32)
              (Ideal.exp (val_main_v47 (F := Ideal) r3 r4 (ix4 b (hd l) q k) - val_main_v48 (F := Ideal) r3 r4 (ix3 b (hd l) q)) * Ideal.ofBits .f32 0x43800000#32))
            * (r3 (ix4 (2 : Fin 3) b k (gcol (hd l) (pl l))) * (Ideal.ofBits .f32 0x3B800000#32 * r4 (ix4 (2 : Fin 3) b (blk k) (hd l)))))
          (Ideal.ofBits .f32 0x00000000#32
            + ∑ k : Fin 4096, Ideal.exp (val_main_v47 (F := Ideal) r3 r4 (ix4 b (hd l) q k) - val_main_v48 (F := Ideal) r3 r4 (ix3 b (hd l) q))) := by
  rw [v71_at, v53_at, val_main_v65_apply]
  refine congrArg₂ _ (Finset.sum_congr rfl fun k _ => ?_) rfl
  rw [← v56_at, ← v64_at]
  refine congrArg₂ _ (congrArg _ ?_) (congrArg _ ?_)
  · exact funext fun a => match a with | ⟨0, _⟩ => rfl | ⟨1, _⟩ => rfl | ⟨2, _⟩ => rfl | ⟨3, _⟩ => rfl
  · exact funext fun a => match a with | ⟨0, _⟩ => rfl | ⟨1, _⟩ => rfl | ⟨2, _⟩ => rfl | ⟨3, _⟩ => rfl

end Cert.ReferenceIdeal.Hand

end
-- ==== Proof.RSoft.lean ====
/- Causal softmax attention of one query row, taken over all keys at once: from the scores as extended reals, their largest,
   the weights, the codes of the weights and the scaled codes of the values, to the quotient of two real sums. -/
module

public import proofs.«01_k».proof.Proof.Spec

@[expose] public section

noncomputable section

namespace Cert.Softmax

open Idealize.ShloMosaic

/-- The largest score is a real number, above every real score. -/
theorem top_real {n : ℕ} (s : Fin n → EReal) (e : Fin n → ℝ) (hs : ∀ k, Wt 1 (s k) (e k)) (k₀ : Fin n) (h₀ : s k₀ ≠ ⊥)
    (m : EReal) (hm : ∀ z, m ≤ z ↔ ∀ k, s k ≤ z) :
    ∃ M : ℝ, m = M ∧ ∀ k r, s k = ((r : ℝ) : EReal) → r * 1 ≤ M := by
  have hle := (hm m).1 le_rfl
  have hb : m ≠ ⊥ := fun h => h₀ (le_bot_iff.1 (h ▸ hle k₀))
  have ht : m ≠ ⊤ := by
    have h : m ≤ Finset.fold max ⊥ s Finset.univ := (hm _).2 fun k => (Finset.le_fold_max (s k)).2 (.inr ⟨k, Finset.mem_univ k, le_rfl⟩)
    refine ne_of_lt (h.trans_lt ((Finset.fold_max_lt ⊤).2 ⟨bot_lt_top, fun k _ => ?_⟩))
    rcases hs k with ⟨r, h, -⟩ | ⟨h, -⟩
    · rw [h]; exact EReal.coe_lt_top r
    · rw [h]; exact bot_lt_top
  refine ⟨m.toReal, (EReal.coe_toReal ht hb).symm, fun k r h => ?_⟩
  have := hle k
  rw [h, ← EReal.coe_toReal ht hb, EReal.coe_le_coe_iff] at this
  rwa [mul_one]

/-- The weight of a key. -/
theorem plain (s : EReal) (e : ℝ) (hs : Wt 1 s e) (M : ℝ) : Ideal.exp (s - (M : EReal)) = ((Real.exp (-M) * e : ℝ) : EReal) := by
  rcases hs with ⟨r, rfl, rfl⟩ | ⟨rfl, rfl⟩
  · rw [← EReal.coe_sub, Ideal.exp_coe, ← Real.exp_add]
    congr 2
    ring
  · rw [show (⊥ : EReal) - (M : EReal) = ⊥ from rfl, Ideal.exp_bot, mul_zero]; rfl

theorem c_256 : Ideal.ofBits .f32 0x43800000#32 = ((256 : ℝ) : EReal) := by
  simp [Ideal.ofBits, Ideal.ieee, -EReal.coe_mul]; norm_num

theorem c_inv256 : Ideal.ofBits .f32 0x3B800000#32 = ((1 / 256 : ℝ) : EReal) := by
  simp [Ideal.ofBits, Ideal.ieee, -EReal.coe_mul]; norm_num

theorem c_eighth : Ideal.ofBits .f32 0x3E000000#32 = ((1 / 8 : ℝ) : EReal) := by
  simp [Ideal.ofBits, Ideal.ieee, -EReal.coe_mul]; norm_num

theorem c_zero : Ideal.ofBits .f32 0x00000000#32 = 0 := by
  simp [Ideal.ofBits, Ideal.ieee]

/-- The code of a weight. -/
theorem plain_code (s : EReal) (e : ℝ) (hs : Wt 1 s e) (M : ℝ) (hM : ∀ r, s = ((r : ℝ) : EReal) → r * 1 ≤ M) :
    min (Ideal.ofBits .f32 0x43E00000#32) (max (Ideal.ofBits .f32 0x00000000#32) (Ideal.exp (s - (M : EReal)) * Ideal.ofBits .f32 0x43800000#32))
      = ((256 * Real.exp (-M) * e : ℝ) : EReal) := by
  rw [plain s e hs M, c_256, c_zero, ← EReal.coe_mul, show Real.exp (-M) * e * 256 = 256 * Real.exp (-M) * e by ring]
  exact weight_clip 1 s e hs M hM

/-- A value's code times its scale, the scale divided by 256. -/
theorem val_deq (t a : EReal) (ha : 0 ≤ a) :
    Quant.code t a * (Ideal.ofBits .f32 0x3B800000#32 * Quant.scl a) = ((1 / 256 * Quant.deq t a : ℝ) : EReal) := by
  rw [c_inv256, mul_left_comm, Quant.code_scl t a ha, EReal.coe_mul]

/-- The row. -/
theorem row_quot {n : ℕ} (s : Fin n → EReal) (e : Fin n → ℝ) (hs : ∀ k, Wt 1 (s k) (e k)) (k₀ : Fin n) (h₀ : s k₀ ≠ ⊥)
    (m : EReal) (hm : ∀ z, m ≤ z ↔ ∀ k, s k ≤ z) (v : Fin n → EReal) (a : Fin n → EReal) (ha : ∀ k, 0 ≤ a k) (hL : 0 < ∑ k, e k) :
    Ideal.div
      (∑ k, min (Ideal.ofBits .f32 0x43E00000#32) (max (Ideal.ofBits .f32 0x00000000#32) (Ideal.exp (s k - m) * Ideal.ofBits .f32 0x43800000#32))
        * (Quant.code (v k) (a k) * (Ideal.ofBits .f32 0x3B800000#32 * Quant.scl (a k))))
      (Ideal.ofBits .f32 0x00000000#32 + ∑ k, Ideal.exp (s k - m))
      = (((∑ k, e k * Quant.deq (v k) (a k)) / ∑ k, e k : ℝ) : EReal) := by
  obtain ⟨M, rfl, hM⟩ := top_real s e hs k₀ h₀ m hm
  have h1 : ∀ k, min (Ideal.ofBits .f32 0x43E00000#32) (max (Ideal.ofBits .f32 0x00000000#32) (Ideal.exp (s k - (M : EReal)) * Ideal.ofBits .f32 0x43800000#32))
        * (Quant.code (v k) (a k) * (Ideal.ofBits .f32 0x3B800000#32 * Quant.scl (a k)))
      = ((Real.exp (-M) * (e k * Quant.deq (v k) (a k)) : ℝ) : EReal) := fun k => by
    rw [plain_code _ _ (hs k) M (hM k), val_deq _ _ (ha k), ← EReal.coe_mul]
    congr 1
    ring
  rw [Finset.sum_congr rfl fun k _ => h1 k, Finset.sum_congr rfl fun k _ => plain (s k) (e k) (hs k) M, c_zero, zero_add,
    ← Quant.coe_sum, ← Quant.coe_sum, ← Finset.mul_sum, ← Finset.mul_sum]
  have h : (0 : ℝ) < Real.exp (-M) := Real.exp_pos _
  have h0 : ((Real.exp (-M) * ∑ k, e k : ℝ) : EReal) ≠ 0 := by exact_mod_cast (mul_pos h hL).ne'
  rw [Ideal.div, if_neg h0, ← EReal.coe_inv, ← EReal.coe_mul, ← div_eq_mul_inv, mul_div_mul_left _ _ h.ne']

end Cert.Softmax

end
-- ==== Proof.RRun.lean ====
/- What the reference leaves in its seven results, as functions of the arguments. -/
module

public import proofs.«01_k».proof.Proof.RRegion
public import proofs.«01_k».proof.Proof.RLay
public import proofs.«01_k».proof.Proof.RSoft

@[expose] public section

set_option maxRecDepth 65536

noncomputable section

namespace Cert.ReferenceIdeal.Hand

open Cert.ReferenceIdeal Cert.ReferenceIdeal.Gen Cert.ReferenceIdeal.Read Idealize.ShloMosaic Idealize.ShloMosaic.TcCoe Idealize.ShloMosaic.Tactic Idealize.ShloMosaic.StableHlo Cert.Spec Cert.Glob
open Idealize.SL Idealize.SL.Sem

/-- The output, of any stack of codes and of scales that are those of three arguments `X`, `K` and `V`. -/
theorem v71_eq (r3 : FVec Ideal S3x8x4096x2048 .f32) (r4 : FVec Ideal S3x8x32x32 .f32) (X K W : SX.Idx → EReal) (hK : Real K)
    (c0 : ∀ b s h d, r3 (ix4 (0 : Fin 3) b s (gcol h d)) = code (head X b h) s d)
    (c1 : ∀ b s h d, r3 (ix4 (1 : Fin 3) b s (gcol h d)) = code (head K b h) s d)
    (c2 : ∀ b s h d, r3 (ix4 (2 : Fin 3) b s (gcol h d)) = code (head W b h) s d)
    (s0 : ∀ b g h, r4 (ix4 (0 : Fin 3) b g h) = scl (head X b h) g)
    (s1 : ∀ b g h, r4 (ix4 (1 : Fin 3) b g h) = scl (head K b h) g)
    (s2 : ∀ b g h, r4 (ix4 (2 : Fin 3) b g h) = scl (head W b h) g)
    (b : Fin 8) (q : Fin 4096) (l : Fin 2048) :
    val_main_v71 (F := Ideal) r3 r4 (ix3 b q l) = Y X K W (ix3 b q l) := by
  have hs : ∀ (h : Fin 32) (k : Fin 4096), Softmax.Wt 1 (val_main_v47 (F := Ideal) r3 r4 (ix4 b h q k)) (wgt (head X b h) (head K b h) q k) := by
    intro h k
    rw [v47_at]
    by_cases hk : k ≤ q
    · have e := score_unit (head X b h) (head K b h) (hK b h) q k
      rw [Spec.unit] at e
      rw [if_pos hk, v40_at, s0, s1, Softmax.c_eighth, Finset.sum_congr rfl fun d _ => by rw [c0, c1], score_coe, e]
      exact .inl ⟨_, rfl, by rw [wgt, if_pos hk, mul_one]⟩
    · rw [if_neg hk]
      exact .inr ⟨rfl, by rw [wgt, if_neg hk]⟩
  have h0 : val_main_v47 (F := Ideal) r3 r4 (ix4 b (hd l) q q) ≠ ⊥ := by
    rcases hs (hd l) q with ⟨r, h, -⟩ | ⟨-, h⟩
    · rw [h]; exact EReal.coe_ne_bot r
    · rw [wgt, if_pos le_rfl] at h
      exact absurd h (Real.exp_pos _).ne'
  rw [v71_sum, Finset.sum_congr rfl fun k _ => by rw [c2, s2]]
  exact Softmax.row_quot (fun k => val_main_v47 (F := Ideal) r3 r4 (ix4 b (hd l) q k)) (fun k => wgt (head X b (hd l)) (head K b (hd l)) q k)
    (hs (hd l)) q h0 _ (v48_le r3 r4 b (hd l) q) (fun k => head W b (hd l) k (pl l)) (fun k => amax (head W b (hd l)) (blk k))
    (fun k => amax_nonneg _ _) (wgt_sum_pos _ _ q)

variable (m : (ℓ : Loc nD τ sig) → Buf (Elt Ideal) ℓ) (ρ : Dev nD → PrngReg)

theorem codes_0 (c : Dev nD) (b : Fin 8) (s : Fin 4096) (h : Fin 32) (d : Fin 64) :
    codesT m c (ix4 (0 : Fin 3) b s (gcol h d)) = code (head (aX m c) b h) s d := by
  rw [codesT_at, hd_gcol, pl_gcol, tHead_0]
theorem codes_1 (c : Dev nD) (b : Fin 8) (s : Fin 4096) (h : Fin 32) (d : Fin 64) :
    codesT m c (ix4 (1 : Fin 3) b s (gcol h d)) = code (head (aK m c) b h) s d := by
  rw [codesT_at, hd_gcol, pl_gcol, tHead_1]
theorem codes_2 (c : Dev nD) (b : Fin 8) (s : Fin 4096) (h : Fin 32) (d : Fin 64) :
    codesT m c (ix4 (2 : Fin 3) b s (gcol h d)) = code (head (aV m c) b h) s d := by
  rw [codesT_at, hd_gcol, pl_gcol, tHead_2]
theorem scales_0 (c : Dev nD) (b : Fin 8) (g h : Fin 32) : scalesT m c (ix4 (0 : Fin 3) b g h) = scl (head (aX m c) b h) g := by
  rw [scalesT_at, tHead_0]
theorem scales_1 (c : Dev nD) (b : Fin 8) (g h : Fin 32) : scalesT m c (ix4 (1 : Fin 3) b g h) = scl (head (aK m c) b h) g := by
  rw [scalesT_at, tHead_1]
theorem scales_2 (c : Dev nD) (b : Fin 8) (g h : Fin 32) : scalesT m c (ix4 (2 : Fin 3) b g h) = scl (head (aV m c) b h) g := by
  rw [scalesT_at, tHead_2]

theorem exit_3 (c : Dev nD) : Value.exitV m c (Proc.devRef .tc main_v11_3) = codesT m c :=
  (Value.exit_main_v11_3 m c).trans (final_6 m c)
theorem exit_4 (c : Dev nD) : Value.exitV m c (Proc.devRef .tc main_v11_4) = scalesT m c :=
  (Value.exit_main_v11_4 m c).trans (final_7 m c)

theorem y_eq (c : Dev nD) (hK : Real (aK m c)) :
    val_main_v71 (F := Ideal) (codesT m c) (scalesT m c) = Y (aX m c) (aK m c) (aV m c) := by
  funext i
  obtain ⟨b, q, l, rfl⟩ : ∃ (b : Fin 8) (q : Fin 4096) (l : Fin 2048), i = ix3 b q l := ⟨i 0, i 1, i 2, eq_ix3 i⟩
  exact v71_eq _ _ _ _ _ hK (codes_0 m c) (codes_1 m c) (codes_2 m c) (scales_0 m c) (scales_1 m c) (scales_2 m c) b q l

theorem sx_eq (c : Dev nD) : val_main_v13 (F := Ideal) (scalesT m c) = S (aX m c) := by
  funext i
  obtain ⟨b, g, h, rfl⟩ : ∃ (b : Fin 8) (g h : Fin 32), i = ix3 b g h := ⟨i 0, i 1, i 2, eq_ix3 i⟩
  exact (v13_at _ b g h).trans (scales_0 m c b g h)
theorem sk_eq (c : Dev nD) : val_main_v15 (F := Ideal) (scalesT m c) = S (aK m c) := by
  funext i
  obtain ⟨b, g, h, rfl⟩ : ∃ (b : Fin 8) (g h : Fin 32), i = ix3 b g h := ⟨i 0, i 1, i 2, eq_ix3 i⟩
  exact (v15_at _ b g h).trans (scales_1 m c b g h)
theorem sv_eq (c : Dev nD) : val_main_v17 (F := Ideal) (scalesT m c) = S (aV m c) := by
  funext i
  obtain ⟨b, g, h, rfl⟩ : ∃ (b : Fin 8) (g h : Fin 32), i = ix3 b g h := ⟨i 0, i 1, i 2, eq_ix3 i⟩
  exact (v17_at _ b g h).trans (scales_2 m c b g h)

/-- THE REFERENCE'S VALUE: every run ends with the seven results at these functions of the arguments. -/
theorem value (hK : ∀ c, Real (aK m c)) :
    θ_run defs (onTc (τ := τ) (main (F := Ideal))) ⟨m, fun _ => 0, ρ⟩ fun r => ∀ c : Dev nD,
      r.2.mem ((c.tc : Thread nD τ).loc main_v71) = Y (aX m c) (aK m c) (aV m c)
      ∧ r.2.mem ((c.tc : Thread nD τ).loc main_v11_0) = C (aX m c)
      ∧ r.2.mem ((c.tc : Thread nD τ).loc main_v13) = S (aX m c)
      ∧ r.2.mem ((c.tc : Thread nD τ).loc main_v11_1) = C (aK m c)
      ∧ r.2.mem ((c.tc : Thread nD τ).loc main_v15) = S (aK m c)
      ∧ r.2.mem ((c.tc : Thread nD τ).loc main_v11_2) = C (aV m c)
      ∧ r.2.mem ((c.tc : Thread nD τ).loc main_v17) = S (aV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Value.run m ρ)
  obtain ⟨h0, h1, h2, h3, h4, h5, h6, h7⟩ := h c
  refine ⟨?_, h1.trans (final_3 m c), ?_, h3.trans (final_4 m c), ?_, h5.trans (final_5 m c), ?_, h7⟩
  · have e := h0.trans (val_main_v71_eq (Value.exitV m c))
    rw [exit_3, exit_4] at e
    exact e.trans (y_eq m c (hK c))
  · have e := h2.trans (val_main_v13_eq (Value.exitV m c))
    rw [exit_4] at e
    exact e.trans (sx_eq m c)
  · have e := h4.trans (val_main_v15_eq (Value.exitV m c))
    rw [exit_4] at e
    exact e.trans (sk_eq m c)
  · have e := h6.trans (val_main_v17_eq (Value.exitV m c))
    rw [exit_4] at e
    exact e.trans (sv_eq m c)

end Cert.ReferenceIdeal.Hand

end
-- ==== Proof.Pre.lean ====
/- What the precondition says: every element of the second argument is a real number. -/
module

public import proofs.«01_k».proof.Defs
public import proofs.«01_k».proof.Proof.Glob

@[expose] public section

noncomputable section

namespace Cert.Pre_finite.Hand

open Idealize.ShloMosaic Cert.Spec Cert.Glob

instance facts : Cert.Pre_finite.Facts where
  bcast_S_S8x4096x2048 := by decide

theorem inf_word : Ideal.ofBits .bf16 0x7F80#16 = ⊤ := by
  simp [Ideal.ofBits, Ideal.ieee]

/-- An element whose absolute value is below infinity is a real number. -/
theorem real_of_abs (t : EReal) (h : max t (-t) < ⊤) : ∃ r : ℝ, t = r := by
  induction t with
  | bot => exact absurd h (by simp)
  | top => exact absurd h (by simp)
  | coe r => exact ⟨r, rfl⟩

theorem elements (X K V : FVec Ideal Cert.Pre_finite.S8x4096x2048 .bf16) (h : Cert.Pre_finite.fn (F := Ideal) X K V = fun _ => 1#1)
    (i : SX.Idx) : ∃ r : ℝ, K i = r := by
  have key : ∀ t : EReal, FloatOps.cmpf (F := Ideal) (φ := .bf16) .olt (FloatOps.absf (F := Ideal) (φ := .bf16) t) (Ideal.ofBits .bf16 0x7F80#16) = 1#1 → ∃ r : ℝ, t = r := by
    intro t ht
    refine real_of_abs t ?_
    rw [inf_word] at ht
    by_contra hn
    have e : Ideal.cmp .olt (max t (-t)) (⊤ : EReal) = 1#1 := ht
    simp [Ideal.cmp, hn] at e
  exact key _ (congrFun h i)

theorem real (X K V : FVec Ideal Cert.Pre_finite.S8x4096x2048 .bf16) (h : Cert.Pre_finite.fn (F := Ideal) X K V = fun _ => 1#1) :
    Real K :=
  fun b h' s d => elements X K V h (ix3 b s (gcol h' d))

end Cert.Pre_finite.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.IdealFrame
public import proofs.«01_k».proof.Proof.KRun
public import proofs.«01_k».proof.Proof.RRun
public import proofs.«01_k».proof.Proof.Pre
public import Idealize.ShloMosaic.Adequacy
public import Idealize.ShloMosaic.Init

@[expose] public section

noncomputable section

namespace Cert.Proof

open Idealize.ShloMosaic

/-- The named constants of the idealized kernel: `log2e` stands for `1 / log 2`, `ln256` for `8 * log 2`. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "ln256" .f32 0x40B17218#32 ((8 * (Real.log 2) : ℝ) : EReal) rfl⟩

/-- The kernel's seven results and the reference's are the same functions of the arguments. -/
theorem algebraic : Cert.algebraic_KernelIdeal_ReferenceIdeal_pre_finite := by
  intro m g m' g' hpre harg
  have hr := fun c => Cert.Pre_finite.Hand.real _ _ _ (hpre c)
  have hx : Cert.ReferenceIdeal.Hand.aX m' = Cert.KernelIdeal.Hand.aX m := funext fun c => (harg c).1
  have hk : Cert.ReferenceIdeal.Hand.aK m' = Cert.KernelIdeal.Hand.aK m := funext fun c => (harg c).2.1
  have hv : Cert.ReferenceIdeal.Hand.aV m' = Cert.KernelIdeal.Hand.aV m := funext fun c => (harg c).2.2
  have h := Cert.ReferenceIdeal.Hand.value m' g' (fun c => by rw [hk]; exact hr c)
  rw [hx, hk, hv] at h
  exact ⟨_, _, _, _, _, _, _, Cert.KernelIdeal.Hand.value m g hr, h⟩

theorem claim : Cert.Claim :=
  ⟨Cert.Kernel.Gen.facts, Cert.KernelIdeal.Gen.facts, Cert.ReferenceIdeal.Gen.facts, Cert.Pre_finite.Hand.facts,
    fun m ρ _ => Cert.Kernel.Hand.frame m ρ, fun m ρ _ => Cert.KernelIdeal.Hand.frame m ρ,
    fun m ρ _ => Cert.KernelIdeal.Hand.frame m ρ, fun m ρ _ => Cert.ReferenceIdeal.Gen.frame m ρ,
    fun m ρ _ => Cert.ReferenceIdeal.Gen.frame m ρ, preserves, algebraic⟩

end Cert.Proof

end
